-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![1024, 1024]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 256]⟩ ⟨2, ![1024, 1024]⟩ (Layout.meshBlock [2, 2, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S1024x256 : Shape := ⟨2, ![1024, 256]⟩
abbrev S3 : Shape := ⟨1, ![3]⟩
abbrev S3x3 : Shape := ⟨2, ![3, 3]⟩
abbrev S_ : Shape := ⟨0, ![]⟩
abbrev S1 : Shape := ⟨1, ![1]⟩
abbrev S64x256 : Shape := ⟨2, ![64, 256]⟩
abbrev S256x256 : Shape := ⟨2, ![256, 256]⟩
abbrev S1x1 : Shape := ⟨2, ![1, 1]⟩

abbrev nBuf : Space → Nat
  | .hbm => 2
  | .vmem => 2
  | .smem => 0
  | _ => 0

abbrev bufTy : (tb : Table) → Fin (tcTables nBuf tb) → BufTy
  | .hbm, ⟨0, _⟩ => ⟨S256x1024, .f32⟩
  | .hbm, ⟨1, _⟩ => ⟨S1024x256, .f32⟩
  | .local _ .vmem, ⟨0, _⟩ => ⟨S256x1024, .f32⟩
  | .local _ .vmem, ⟨1, _⟩ => ⟨S1024x256, .f32⟩
  | _, _ => ⟨S256x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_10 : BitVec 32 := 8#32
  let v19 : BitVec 32 := Scalar.muli v2 c8_i32_10
  let v20 : BitVec 32 := Scalar.addi c0_i32 v19
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v21 : BitVec 32 := Scalar.muli v5 c4_i32_11
  let v22 : BitVec 32 := Scalar.addi v20 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v17 : BitVec 32 := Scalar.addi v8 c1_i32_7
  let c4_i32_8 : BitVec 32 := 4#32
  let v18 : BitVec 32 := Scalar.remsi v17 c4_i32_8
  let c1_i32_12 : BitVec 32 := 1#32
  let v23 : BitVec 32 := Scalar.muli v18 c1_i32_12
  let v24 : BitVec 32 := Scalar.addi v22 v23
  v24.toNat
def k0_dev2 (d0 : Dev nD) : Nat :=
  let c0_i32_17 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_16 : BitVec 32 := 8#32
  let v27 : BitVec 32 := Scalar.muli v2 c8_i32_16
  let v28 : BitVec 32 := Scalar.addi c0_i32_17 v27
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_18 : BitVec 32 := 4#32
  let v29 : BitVec 32 := Scalar.muli v5 c4_i32_18
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v25 : BitVec 32 := Scalar.addi v8 c2_i32_13
  let c4_i32_14 : BitVec 32 := 4#32
  let v26 : BitVec 32 := Scalar.remsi v25 c4_i32_14
  let c1_i32_19 : BitVec 32 := 1#32
  let v31 : BitVec 32 := Scalar.muli v26 c1_i32_19
  let v32 : BitVec 32 := Scalar.addi v30 v31
  v32.toNat
def k0_dev3 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v35 : BitVec 32 := Scalar.muli v2 c8_i32_22
  let v36 : BitVec 32 := Scalar.addi c0_i32_23 v35
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v37 : BitVec 32 := Scalar.muli v5 c4_i32_24
  let v38 : BitVec 32 := Scalar.addi v36 v37
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v33 : BitVec 32 := Scalar.addi v8 c3_i32
  let c4_i32_20 : BitVec 32 := 4#32
  let v34 : BitVec 32 := Scalar.remsi v33 c4_i32_20
  let c1_i32_25 : BitVec 32 := 1#32
  let v39 : BitVec 32 := Scalar.muli v34 c1_i32_25
  let v40 : BitVec 32 := Scalar.addi v38 v39
  v40.toNat
def k0_dev4 (d0 : Dev nD) : Nat :=
  let c0_i32_28 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_3 v2
  let c8_i32_27 : BitVec 32 := 8#32
  let v41 : BitVec 32 := Scalar.muli v12 c8_i32_27
  let v42 : BitVec 32 := Scalar.addi c0_i32_28 v41
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_29 : BitVec 32 := 4#32
  let v43 : BitVec 32 := Scalar.muli v5 c4_i32_29
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v45 : BitVec 32 := Scalar.muli v8 c1_i32_30
  let v46 : BitVec 32 := Scalar.addi v44 v45
  v46.toNat
def k0_dev5 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v47 : BitVec 32 := Scalar.muli v2 c8_i32_32
  let v48 : BitVec 32 := Scalar.addi c0_i32_33 v47
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_4 v5
  let c4_i32_34 : BitVec 32 := 4#32
  let v49 : BitVec 32 := Scalar.muli v13 c4_i32_34
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v51 : BitVec 32 := Scalar.muli v8 c1_i32_35
  let v52 : BitVec 32 := Scalar.addi v50 v51
  v52.toNat
def k0_dev6 (d0 : Dev nD) : Nat :=
  let c0_i32_38 : BitVec 32 := 0#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_5 v2
  let c8_i32_37 : BitVec 32 := 8#32
  let v53 : BitVec 32 := Scalar.muli v14 c8_i32_37
  let v54 : BitVec 32 := Scalar.addi c0_i32_38 v53
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c4_i32_39 : BitVec 32 := 4#32
  let v55 : BitVec 32 := Scalar.muli v15 c4_i32_39
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v57 : BitVec 32 := Scalar.muli v8 c1_i32_40
  let v58 : BitVec 32 := Scalar.addi v56 v57
  v58.toNat
def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_43 : BitVec 32 := 256#32
  let v62 : BitVec 32 := Scalar.muli v8 c256_i32_43
  let c64_i32 : BitVec 32 := 64#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v11 : BitVec 32 := Scalar.muli c64_i32 v10
  let v63 : BitVec 32 := Scalar.addi v62 v11
  let c0_i32_50 : BitVec 32 := 0#32
  ![v63.toNat, 0]
def k0_off2 (d0 : Dev nD) (c1_i32_41 : BitVec 32) : Fin 2 → Nat :=
  let c64_i32 : BitVec 32 := 64#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v11 : BitVec 32 := Scalar.muli c64_i32 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v59 : BitVec 32 := Scalar.addi v8 c1_i32_41
  let c4_i32_42 : BitVec 32 := 4#32
  let v60 : BitVec 32 := Scalar.remsi v59 c4_i32_42
  let c256_i32 : BitVec 32 := 256#32
  let v61 : BitVec 32 := Scalar.muli v60 c256_i32
  ![v11.toNat, v61.toNat]
def k0_dev7 (d0 : Dev nD) : Nat :=
  let c0_i32_47 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_46 : BitVec 32 := 8#32
  let v64 : BitVec 32 := Scalar.muli v2 c8_i32_46
  let v65 : BitVec 32 := Scalar.addi c0_i32_47 v64
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_48 : BitVec 32 := 4#32
  let v66 : BitVec 32 := Scalar.muli v5 c4_i32_48
  let v67 : BitVec 32 := Scalar.addi v65 v66
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v59 : BitVec 32 := Scalar.addi v8 c1_i32_41
  let c4_i32_42 : BitVec 32 := 4#32
  let v60 : BitVec 32 := Scalar.remsi v59 c4_i32_42
  let c1_i32_49 : BitVec 32 := 1#32
  let v68 : BitVec 32 := Scalar.muli v60 c1_i32_49
  let v69 : BitVec 32 := Scalar.addi v67 v68
  v69.toNat
def k0_dev8 (d0 : Dev nD) : Nat :=
  let c0_i32_58 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_57 : BitVec 32 := 8#32
  let v81 : BitVec 32 := Scalar.muli v2 c8_i32_57
  let v82 : BitVec 32 := Scalar.addi c0_i32_58 v81
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_59 : BitVec 32 := 4#32
  let v83 : BitVec 32 := Scalar.muli v5 c4_i32_59
  let v84 : BitVec 32 := Scalar.addi v82 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_51 : BitVec 32 := 2#32
  let v76 : BitVec 32 := Scalar.addi v8 c2_i32_51
  let c4_i32_52 : BitVec 32 := 4#32
  let v77 : BitVec 32 := Scalar.remsi v76 c4_i32_52
  let c1_i32_60 : BitVec 32 := 1#32
  let v85 : BitVec 32 := Scalar.muli v77 c1_i32_60
  let v86 : BitVec 32 := Scalar.addi v84 v85
  v86.toNat
def k0_dev9 (d0 : Dev nD) : Nat :=
  let c0_i32_69 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_68 : BitVec 32 := 8#32
  let v98 : BitVec 32 := Scalar.muli v2 c8_i32_68
  let v99 : BitVec 32 := Scalar.addi c0_i32_69 v98
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_70 : BitVec 32 := 4#32
  let v100 : BitVec 32 := Scalar.muli v5 c4_i32_70
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_62 : BitVec 32 := 3#32
  let v93 : BitVec 32 := Scalar.addi v8 c3_i32_62
  let c4_i32_63 : BitVec 32 := 4#32
  let v94 : BitVec 32 := Scalar.remsi v93 c4_i32_63
  let c1_i32_71 : BitVec 32 := 1#32
  let v102 : BitVec 32 := Scalar.muli v94 c1_i32_71
  let v103 : BitVec 32 := Scalar.addi v101 v102
  v103.toNat
def k0_off3 (d0 : Dev nD) : Fin 2 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_73 : BitVec 32 := 256#32
  let v110 : BitVec 32 := Scalar.muli v8 c256_i32_73
  let v111 : Index := Scalar.indexCast v110
  ![0, v111.toNat]
def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_74 : BitVec 32 := 256#32
  let v114 : BitVec 32 := Scalar.muli v8 c256_i32_74
  let v115 : Index := Scalar.indexCast v114
  let c0_75 : Index := 0#32
  ![v115.toNat, 0]
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_76 : BitVec 32 := 0#32
  let v117 : BitVec 1 := Scalar.cmpi .eq v8 c0_i32_76
  let v118 : BitVec 32 := Scalar.extui v117
  let c0_i32_77 : BitVec 32 := 0#32
  let v119 : BitVec 1 := Scalar.cmpi .ne v118 c0_i32_77
  v119

def k0_off5 (d0 : Dev nD) (c256_i32_186 : BitVec 32) : Fin 2 → Nat :=
  let c64_i32 : BitVec 32 := 64#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v11 : BitVec 32 := Scalar.muli c64_i32 v10
  let v177 : BitVec 32 := Scalar.addi c256_i32_186 v11
  let c0_i32_194 : BitVec 32 := 0#32
  ![v177.toNat, 0]
def k0_dev10 (d0 : Dev nD) : Nat :=
  let c0_i32_205 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_3 v2
  let c8_i32_204 : BitVec 32 := 8#32
  let v190 : BitVec 32 := Scalar.muli v12 c8_i32_204
  let v191 : BitVec 32 := Scalar.addi c0_i32_205 v190
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_206 : BitVec 32 := 4#32
  let v192 : BitVec 32 := Scalar.muli v5 c4_i32_206
  let v193 : BitVec 32 := Scalar.addi v191 v192
  let c0_i32_203 : BitVec 32 := 0#32
  let c1_i32_207 : BitVec 32 := 1#32
  let v194 : BitVec 32 := Scalar.muli c0_i32_203 c1_i32_207
  let v195 : BitVec 32 := Scalar.addi v193 v194
  v195.toNat
def k0_dev11 (d0 : Dev nD) : Nat :=
  let c0_i32_218 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_217 : BitVec 32 := 8#32
  let v204 : BitVec 32 := Scalar.muli v2 c8_i32_217
  let v205 : BitVec 32 := Scalar.addi c0_i32_218 v204
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_4 v5
  let c4_i32_219 : BitVec 32 := 4#32
  let v206 : BitVec 32 := Scalar.muli v13 c4_i32_219
  let v207 : BitVec 32 := Scalar.addi v205 v206
  let c0_i32_216 : BitVec 32 := 0#32
  let c1_i32_220 : BitVec 32 := 1#32
  let v208 : BitVec 32 := Scalar.muli c0_i32_216 c1_i32_220
  let v209 : BitVec 32 := Scalar.addi v207 v208
  v209.toNat
def k0_dev12 (d0 : Dev nD) : Nat :=
  let c0_i32_231 : BitVec 32 := 0#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_5 v2
  let c8_i32_230 : BitVec 32 := 8#32
  let v218 : BitVec 32 := Scalar.muli v14 c8_i32_230
  let v219 : BitVec 32 := Scalar.addi c0_i32_231 v218
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c4_i32_232 : BitVec 32 := 4#32
  let v220 : BitVec 32 := Scalar.muli v15 c4_i32_232
  let v221 : BitVec 32 := Scalar.addi v219 v220
  let c0_i32_229 : BitVec 32 := 0#32
  let c1_i32_233 : BitVec 32 := 1#32
  let v222 : BitVec 32 := Scalar.muli c0_i32_229 c1_i32_233
  let v223 : BitVec 32 := Scalar.addi v221 v222
  v223.toNat
def k0_dev13 (d0 : Dev nD) : Nat :=
  let c0_i32_254 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_3 v2
  let c8_i32_253 : BitVec 32 := 8#32
  let v243 : BitVec 32 := Scalar.muli v12 c8_i32_253
  let v244 : BitVec 32 := Scalar.addi c0_i32_254 v243
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_255 : BitVec 32 := 4#32
  let v245 : BitVec 32 := Scalar.muli v5 c4_i32_255
  let v246 : BitVec 32 := Scalar.addi v244 v245
  let c0_i32_252 : BitVec 32 := 0#32
  let c1_i32_256 : BitVec 32 := 1#32
  let v247 : BitVec 32 := Scalar.muli c0_i32_252 c1_i32_256
  let v248 : BitVec 32 := Scalar.addi v246 v247
  v248.toNat
def k0_dev14 (d0 : Dev nD) : Nat :=
  let c0_i32_267 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_266 : BitVec 32 := 8#32
  let v257 : BitVec 32 := Scalar.muli v2 c8_i32_266
  let v258 : BitVec 32 := Scalar.addi c0_i32_267 v257
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_4 v5
  let c4_i32_268 : BitVec 32 := 4#32
  let v259 : BitVec 32 := Scalar.muli v13 c4_i32_268
  let v260 : BitVec 32 := Scalar.addi v258 v259
  let c0_i32_265 : BitVec 32 := 0#32
  let c1_i32_269 : BitVec 32 := 1#32
  let v261 : BitVec 32 := Scalar.muli c0_i32_265 c1_i32_269
  let v262 : BitVec 32 := Scalar.addi v260 v261
  v262.toNat
def k0_dev15 (d0 : Dev nD) : Nat :=
  let c0_i32_280 : BitVec 32 := 0#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_5 v2
  let c8_i32_279 : BitVec 32 := 8#32
  let v271 : BitVec 32 := Scalar.muli v14 c8_i32_279
  let v272 : BitVec 32 := Scalar.addi c0_i32_280 v271
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c4_i32_281 : BitVec 32 := 4#32
  let v273 : BitVec 32 := Scalar.muli v15 c4_i32_281
  let v274 : BitVec 32 := Scalar.addi v272 v273
  let c0_i32_278 : BitVec 32 := 0#32
  let c1_i32_282 : BitVec 32 := 1#32
  let v275 : BitVec 32 := Scalar.muli c0_i32_278 c1_i32_282
  let v276 : BitVec 32 := Scalar.addi v274 v275
  v276.toNat
def k0_dev16 (d0 : Dev nD) : Nat :=
  let c0_i32_303 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_3 v2
  let c8_i32_302 : BitVec 32 := 8#32
  let v296 : BitVec 32 := Scalar.muli v12 c8_i32_302
  let v297 : BitVec 32 := Scalar.addi c0_i32_303 v296
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_304 : BitVec 32 := 4#32
  let v298 : BitVec 32 := Scalar.muli v5 c4_i32_304
  let v299 : BitVec 32 := Scalar.addi v297 v298
  let c0_i32_301 : BitVec 32 := 0#32
  let c1_i32_305 : BitVec 32 := 1#32
  let v300 : BitVec 32 := Scalar.muli c0_i32_301 c1_i32_305
  let v301 : BitVec 32 := Scalar.addi v299 v300
  v301.toNat
def k0_dev17 (d0 : Dev nD) : Nat :=
  let c0_i32_316 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_315 : BitVec 32 := 8#32
  let v310 : BitVec 32 := Scalar.muli v2 c8_i32_315
  let v311 : BitVec 32 := Scalar.addi c0_i32_316 v310
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_4 v5
  let c4_i32_317 : BitVec 32 := 4#32
  let v312 : BitVec 32 := Scalar.muli v13 c4_i32_317
  let v313 : BitVec 32 := Scalar.addi v311 v312
  let c0_i32_314 : BitVec 32 := 0#32
  let c1_i32_318 : BitVec 32 := 1#32
  let v314 : BitVec 32 := Scalar.muli c0_i32_314 c1_i32_318
  let v315 : BitVec 32 := Scalar.addi v313 v314
  v315.toNat
def k0_dev18 (d0 : Dev nD) : Nat :=
  let c0_i32_329 : BitVec 32 := 0#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_5 v2
  let c8_i32_328 : BitVec 32 := 8#32
  let v324 : BitVec 32 := Scalar.muli v14 c8_i32_328
  let v325 : BitVec 32 := Scalar.addi c0_i32_329 v324
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c4_i32_330 : BitVec 32 := 4#32
  let v326 : BitVec 32 := Scalar.muli v15 c4_i32_330
  let v327 : BitVec 32 := Scalar.addi v325 v326
  let c0_i32_327 : BitVec 32 := 0#32
  let c1_i32_331 : BitVec 32 := 1#32
  let v328 : BitVec 32 := Scalar.muli c0_i32_327 c1_i32_331
  let v329 : BitVec 32 := Scalar.addi v327 v328
  v329.toNat
def k0_off6 (d0 : Dev nD) (c256_i32_336 : BitVec 32) : Fin 2 → Nat :=
  let c64_i32_335 : BitVec 32 := 64#32
  let c2_i32_334 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_3 v2
  let v336 : BitVec 32 := Scalar.muli c2_i32_334 v12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v337 : BitVec 32 := Scalar.addi v336 v5
  let v338 : BitVec 32 := Scalar.muli c64_i32_335 v337
  let v339 : BitVec 32 := Scalar.addi c256_i32_336 v338
  let c0_i32_346 : BitVec 32 := 0#32
  ![v339.toNat, 0]
def k0_off7 (d0 : Dev nD) (c256_i32_351 : BitVec 32) : Fin 2 → Nat :=
  let c64_i32_350 : BitVec 32 := 64#32
  let c2_i32_349 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v350 : BitVec 32 := Scalar.muli c2_i32_349 v2
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_4 v5
  let v351 : BitVec 32 := Scalar.addi v350 v13
  let v352 : BitVec 32 := Scalar.muli c64_i32_350 v351
  let v353 : BitVec 32 := Scalar.addi c256_i32_351 v352
  let c0_i32_361 : BitVec 32 := 0#32
  ![v353.toNat, 0]
def k0_off8 (d0 : Dev nD) (c256_i32_366 : BitVec 32) : Fin 2 → Nat :=
  let c64_i32_365 : BitVec 32 := 64#32
  let c2_i32_364 : BitVec 32 := 2#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_5 v2
  let v364 : BitVec 32 := Scalar.muli c2_i32_364 v14
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v365 : BitVec 32 := Scalar.addi v364 v15
  let v366 : BitVec 32 := Scalar.muli c64_i32_365 v365
  let v367 : BitVec 32 := Scalar.addi c256_i32_366 v366
  let c0_i32_376 : BitVec 32 := 0#32
  ![v367.toNat, 0]
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v120 : BitVec 1 := Scalar.cmpi .eq v8 c1_i32_78
  let v121 : BitVec 32 := Scalar.extui v120
  let c0_i32_79 : BitVec 32 := 0#32
  let v122 : BitVec 1 := Scalar.cmpi .ne v121 c0_i32_79
  v122

def k0_off9 (d0 : Dev nD) (c0_i32_186 : BitVec 32) : Fin 2 → Nat :=
  let c64_i32 : BitVec 32 := 64#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v11 : BitVec 32 := Scalar.muli c64_i32 v10
  let v177 : BitVec 32 := Scalar.addi c0_i32_186 v11
  let c0_i32_194 : BitVec 32 := 0#32
  ![v177.toNat, 0]
def k0_off9_at (r : Fin 3) : BitVec 32 :=
  if r.val < 1 then
    0#32
  else
    if r.val < 2 then
      512#32
    else
      768#32
def k0_dev19 (d0 : Dev nD) : Nat :=
  let c0_i32_205 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_3 v2
  let c8_i32_204 : BitVec 32 := 8#32
  let v190 : BitVec 32 := Scalar.muli v12 c8_i32_204
  let v191 : BitVec 32 := Scalar.addi c0_i32_205 v190
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_206 : BitVec 32 := 4#32
  let v192 : BitVec 32 := Scalar.muli v5 c4_i32_206
  let v193 : BitVec 32 := Scalar.addi v191 v192
  let c1_i32_203 : BitVec 32 := 1#32
  let c1_i32_207 : BitVec 32 := 1#32
  let v194 : BitVec 32 := Scalar.muli c1_i32_203 c1_i32_207
  let v195 : BitVec 32 := Scalar.addi v193 v194
  v195.toNat
def k0_dev20 (d0 : Dev nD) : Nat :=
  let c0_i32_218 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_217 : BitVec 32 := 8#32
  let v204 : BitVec 32 := Scalar.muli v2 c8_i32_217
  let v205 : BitVec 32 := Scalar.addi c0_i32_218 v204
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_4 v5
  let c4_i32_219 : BitVec 32 := 4#32
  let v206 : BitVec 32 := Scalar.muli v13 c4_i32_219
  let v207 : BitVec 32 := Scalar.addi v205 v206
  let c1_i32_216 : BitVec 32 := 1#32
  let c1_i32_220 : BitVec 32 := 1#32
  let v208 : BitVec 32 := Scalar.muli c1_i32_216 c1_i32_220
  let v209 : BitVec 32 := Scalar.addi v207 v208
  v209.toNat
def k0_dev21 (d0 : Dev nD) : Nat :=
  let c0_i32_231 : BitVec 32 := 0#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_5 v2
  let c8_i32_230 : BitVec 32 := 8#32
  let v218 : BitVec 32 := Scalar.muli v14 c8_i32_230
  let v219 : BitVec 32 := Scalar.addi c0_i32_231 v218
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c4_i32_232 : BitVec 32 := 4#32
  let v220 : BitVec 32 := Scalar.muli v15 c4_i32_232
  let v221 : BitVec 32 := Scalar.addi v219 v220
  let c1_i32_229 : BitVec 32 := 1#32
  let c1_i32_233 : BitVec 32 := 1#32
  let v222 : BitVec 32 := Scalar.muli c1_i32_229 c1_i32_233
  let v223 : BitVec 32 := Scalar.addi v221 v222
  v223.toNat
def k0_dev22 (d0 : Dev nD) : Nat :=
  let c0_i32_254 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_3 v2
  let c8_i32_253 : BitVec 32 := 8#32
  let v243 : BitVec 32 := Scalar.muli v12 c8_i32_253
  let v244 : BitVec 32 := Scalar.addi c0_i32_254 v243
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_255 : BitVec 32 := 4#32
  let v245 : BitVec 32 := Scalar.muli v5 c4_i32_255
  let v246 : BitVec 32 := Scalar.addi v244 v245
  let c1_i32_252 : BitVec 32 := 1#32
  let c1_i32_256 : BitVec 32 := 1#32
  let v247 : BitVec 32 := Scalar.muli c1_i32_252 c1_i32_256
  let v248 : BitVec 32 := Scalar.addi v246 v247
  v248.toNat
def k0_dev23 (d0 : Dev nD) : Nat :=
  let c0_i32_267 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_266 : BitVec 32 := 8#32
  let v257 : BitVec 32 := Scalar.muli v2 c8_i32_266
  let v258 : BitVec 32 := Scalar.addi c0_i32_267 v257
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_4 v5
  let c4_i32_268 : BitVec 32 := 4#32
  let v259 : BitVec 32 := Scalar.muli v13 c4_i32_268
  let v260 : BitVec 32 := Scalar.addi v258 v259
  let c1_i32_265 : BitVec 32 := 1#32
  let c1_i32_269 : BitVec 32 := 1#32
  let v261 : BitVec 32 := Scalar.muli c1_i32_265 c1_i32_269
  let v262 : BitVec 32 := Scalar.addi v260 v261
  v262.toNat
def k0_dev24 (d0 : Dev nD) : Nat :=
  let c0_i32_280 : BitVec 32 := 0#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_5 v2
  let c8_i32_279 : BitVec 32 := 8#32
  let v271 : BitVec 32 := Scalar.muli v14 c8_i32_279
  let v272 : BitVec 32 := Scalar.addi c0_i32_280 v271
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c4_i32_281 : BitVec 32 := 4#32
  let v273 : BitVec 32 := Scalar.muli v15 c4_i32_281
  let v274 : BitVec 32 := Scalar.addi v272 v273
  let c1_i32_278 : BitVec 32 := 1#32
  let c1_i32_282 : BitVec 32 := 1#32
  let v275 : BitVec 32 := Scalar.muli c1_i32_278 c1_i32_282
  let v276 : BitVec 32 := Scalar.addi v274 v275
  v276.toNat
def k0_dev25 (d0 : Dev nD) : Nat :=
  let c0_i32_303 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_3 v2
  let c8_i32_302 : BitVec 32 := 8#32
  let v296 : BitVec 32 := Scalar.muli v12 c8_i32_302
  let v297 : BitVec 32 := Scalar.addi c0_i32_303 v296
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_304 : BitVec 32 := 4#32
  let v298 : BitVec 32 := Scalar.muli v5 c4_i32_304
  let v299 : BitVec 32 := Scalar.addi v297 v298
  let c1_i32_301 : BitVec 32 := 1#32
  let c1_i32_305 : BitVec 32 := 1#32
  let v300 : BitVec 32 := Scalar.muli c1_i32_301 c1_i32_305
  let v301 : BitVec 32 := Scalar.addi v299 v300
  v301.toNat
def k0_dev26 (d0 : Dev nD) : Nat :=
  let c0_i32_316 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_315 : BitVec 32 := 8#32
  let v310 : BitVec 32 := Scalar.muli v2 c8_i32_315
  let v311 : BitVec 32 := Scalar.addi c0_i32_316 v310
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_4 v5
  let c4_i32_317 : BitVec 32 := 4#32
  let v312 : BitVec 32 := Scalar.muli v13 c4_i32_317
  let v313 : BitVec 32 := Scalar.addi v311 v312
  let c1_i32_314 : BitVec 32 := 1#32
  let c1_i32_318 : BitVec 32 := 1#32
  let v314 : BitVec 32 := Scalar.muli c1_i32_314 c1_i32_318
  let v315 : BitVec 32 := Scalar.addi v313 v314
  v315.toNat
def k0_dev27 (d0 : Dev nD) : Nat :=
  let c0_i32_329 : BitVec 32 := 0#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_5 v2
  let c8_i32_328 : BitVec 32 := 8#32
  let v324 : BitVec 32 := Scalar.muli v14 c8_i32_328
  let v325 : BitVec 32 := Scalar.addi c0_i32_329 v324
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c4_i32_330 : BitVec 32 := 4#32
  let v326 : BitVec 32 := Scalar.muli v15 c4_i32_330
  let v327 : BitVec 32 := Scalar.addi v325 v326
  let c1_i32_327 : BitVec 32 := 1#32
  let c1_i32_331 : BitVec 32 := 1#32
  let v328 : BitVec 32 := Scalar.muli c1_i32_327 c1_i32_331
  let v329 : BitVec 32 := Scalar.addi v327 v328
  v329.toNat
def k0_off10 (d0 : Dev nD) (c0_i32_336 : BitVec 32) : Fin 2 → Nat :=
  let c64_i32_335 : BitVec 32 := 64#32
  let c2_i32_334 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_3 v2
  let v336 : BitVec 32 := Scalar.muli c2_i32_334 v12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v337 : BitVec 32 := Scalar.addi v336 v5
  let v338 : BitVec 32 := Scalar.muli c64_i32_335 v337
  let v339 : BitVec 32 := Scalar.addi c0_i32_336 v338
  let c0_i32_346 : BitVec 32 := 0#32
  ![v339.toNat, 0]
def k0_off10_at (r : Fin 3) : BitVec 32 :=
  if r.val < 1 then
    0#32
  else
    if r.val < 2 then
      512#32
    else
      768#32
def k0_off11 (d0 : Dev nD) (c0_i32_351 : BitVec 32) : Fin 2 → Nat :=
  let c64_i32_350 : BitVec 32 := 64#32
  let c2_i32_349 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v350 : BitVec 32 := Scalar.muli c2_i32_349 v2
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_4 v5
  let v351 : BitVec 32 := Scalar.addi v350 v13
  let v352 : BitVec 32 := Scalar.muli c64_i32_350 v351
  let v353 : BitVec 32 := Scalar.addi c0_i32_351 v352
  let c0_i32_361 : BitVec 32 := 0#32
  ![v353.toNat, 0]
def k0_off11_at (r : Fin 3) : BitVec 32 :=
  if r.val < 1 then
    0#32
  else
    if r.val < 2 then
      512#32
    else
      768#32
def k0_off12 (d0 : Dev nD) (c0_i32_366 : BitVec 32) : Fin 2 → Nat :=
  let c64_i32_365 : BitVec 32 := 64#32
  let c2_i32_364 : BitVec 32 := 2#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_5 v2
  let v364 : BitVec 32 := Scalar.muli c2_i32_364 v14
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v365 : BitVec 32 := Scalar.addi v364 v15
  let v366 : BitVec 32 := Scalar.muli c64_i32_365 v365
  let v367 : BitVec 32 := Scalar.addi c0_i32_366 v366
  let c0_i32_376 : BitVec 32 := 0#32
  ![v367.toNat, 0]
def k0_off12_at (r : Fin 3) : BitVec 32 :=
  if r.val < 1 then
    0#32
  else
    if r.val < 2 then
      512#32
    else
      768#32
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_80 : BitVec 32 := 2#32
  let v123 : BitVec 1 := Scalar.cmpi .eq v8 c2_i32_80
  let v124 : BitVec 32 := Scalar.extui v123
  let c0_i32_81 : BitVec 32 := 0#32
  let v125 : BitVec 1 := Scalar.cmpi .ne v124 c0_i32_81
  v125

def k0_off13 (d0 : Dev nD) (c256_i32_186 : BitVec 32) : Fin 2 → Nat :=
  let c64_i32 : BitVec 32 := 64#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v11 : BitVec 32 := Scalar.muli c64_i32 v10
  let v177 : BitVec 32 := Scalar.addi c256_i32_186 v11
  let c0_i32_194 : BitVec 32 := 0#32
  ![v177.toNat, 0]
def k0_off13_at (r : Fin 3) : BitVec 32 :=
  if r.val < 1 then
    256#32
  else
    if r.val < 2 then
      768#32
    else
      0#32
def k0_dev28 (d0 : Dev nD) : Nat :=
  let c0_i32_205 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_3 v2
  let c8_i32_204 : BitVec 32 := 8#32
  let v190 : BitVec 32 := Scalar.muli v12 c8_i32_204
  let v191 : BitVec 32 := Scalar.addi c0_i32_205 v190
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_206 : BitVec 32 := 4#32
  let v192 : BitVec 32 := Scalar.muli v5 c4_i32_206
  let v193 : BitVec 32 := Scalar.addi v191 v192
  let c2_i32_203 : BitVec 32 := 2#32
  let c1_i32_207 : BitVec 32 := 1#32
  let v194 : BitVec 32 := Scalar.muli c2_i32_203 c1_i32_207
  let v195 : BitVec 32 := Scalar.addi v193 v194
  v195.toNat
def k0_dev29 (d0 : Dev nD) : Nat :=
  let c0_i32_218 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_217 : BitVec 32 := 8#32
  let v204 : BitVec 32 := Scalar.muli v2 c8_i32_217
  let v205 : BitVec 32 := Scalar.addi c0_i32_218 v204
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_4 v5
  let c4_i32_219 : BitVec 32 := 4#32
  let v206 : BitVec 32 := Scalar.muli v13 c4_i32_219
  let v207 : BitVec 32 := Scalar.addi v205 v206
  let c2_i32_216 : BitVec 32 := 2#32
  let c1_i32_220 : BitVec 32 := 1#32
  let v208 : BitVec 32 := Scalar.muli c2_i32_216 c1_i32_220
  let v209 : BitVec 32 := Scalar.addi v207 v208
  v209.toNat
def k0_dev30 (d0 : Dev nD) : Nat :=
  let c0_i32_231 : BitVec 32 := 0#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_5 v2
  let c8_i32_230 : BitVec 32 := 8#32
  let v218 : BitVec 32 := Scalar.muli v14 c8_i32_230
  let v219 : BitVec 32 := Scalar.addi c0_i32_231 v218
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c4_i32_232 : BitVec 32 := 4#32
  let v220 : BitVec 32 := Scalar.muli v15 c4_i32_232
  let v221 : BitVec 32 := Scalar.addi v219 v220
  let c2_i32_229 : BitVec 32 := 2#32
  let c1_i32_233 : BitVec 32 := 1#32
  let v222 : BitVec 32 := Scalar.muli c2_i32_229 c1_i32_233
  let v223 : BitVec 32 := Scalar.addi v221 v222
  v223.toNat
def k0_dev31 (d0 : Dev nD) : Nat :=
  let c0_i32_254 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_3 v2
  let c8_i32_253 : BitVec 32 := 8#32
  let v243 : BitVec 32 := Scalar.muli v12 c8_i32_253
  let v244 : BitVec 32 := Scalar.addi c0_i32_254 v243
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_255 : BitVec 32 := 4#32
  let v245 : BitVec 32 := Scalar.muli v5 c4_i32_255
  let v246 : BitVec 32 := Scalar.addi v244 v245
  let c2_i32_252 : BitVec 32 := 2#32
  let c1_i32_256 : BitVec 32 := 1#32
  let v247 : BitVec 32 := Scalar.muli c2_i32_252 c1_i32_256
  let v248 : BitVec 32 := Scalar.addi v246 v247
  v248.toNat
def k0_dev32 (d0 : Dev nD) : Nat :=
  let c0_i32_267 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_266 : BitVec 32 := 8#32
  let v257 : BitVec 32 := Scalar.muli v2 c8_i32_266
  let v258 : BitVec 32 := Scalar.addi c0_i32_267 v257
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_4 v5
  let c4_i32_268 : BitVec 32 := 4#32
  let v259 : BitVec 32 := Scalar.muli v13 c4_i32_268
  let v260 : BitVec 32 := Scalar.addi v258 v259
  let c2_i32_265 : BitVec 32 := 2#32
  let c1_i32_269 : BitVec 32 := 1#32
  let v261 : BitVec 32 := Scalar.muli c2_i32_265 c1_i32_269
  let v262 : BitVec 32 := Scalar.addi v260 v261
  v262.toNat
def k0_dev33 (d0 : Dev nD) : Nat :=
  let c0_i32_280 : BitVec 32 := 0#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_5 v2
  let c8_i32_279 : BitVec 32 := 8#32
  let v271 : BitVec 32 := Scalar.muli v14 c8_i32_279
  let v272 : BitVec 32 := Scalar.addi c0_i32_280 v271
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c4_i32_281 : BitVec 32 := 4#32
  let v273 : BitVec 32 := Scalar.muli v15 c4_i32_281
  let v274 : BitVec 32 := Scalar.addi v272 v273
  let c2_i32_278 : BitVec 32 := 2#32
  let c1_i32_282 : BitVec 32 := 1#32
  let v275 : BitVec 32 := Scalar.muli c2_i32_278 c1_i32_282
  let v276 : BitVec 32 := Scalar.addi v274 v275
  v276.toNat
def k0_dev34 (d0 : Dev nD) : Nat :=
  let c0_i32_304 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_3 v2
  let c8_i32_303 : BitVec 32 := 8#32
  let v296 : BitVec 32 := Scalar.muli v12 c8_i32_303
  let v297 : BitVec 32 := Scalar.addi c0_i32_304 v296
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_305 : BitVec 32 := 4#32
  let v298 : BitVec 32 := Scalar.muli v5 c4_i32_305
  let v299 : BitVec 32 := Scalar.addi v297 v298
  let c2_i32_302 : BitVec 32 := 2#32
  let c1_i32_306 : BitVec 32 := 1#32
  let v300 : BitVec 32 := Scalar.muli c2_i32_302 c1_i32_306
  let v301 : BitVec 32 := Scalar.addi v299 v300
  v301.toNat
def k0_dev35 (d0 : Dev nD) : Nat :=
  let c0_i32_317 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_316 : BitVec 32 := 8#32
  let v310 : BitVec 32 := Scalar.muli v2 c8_i32_316
  let v311 : BitVec 32 := Scalar.addi c0_i32_317 v310
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_4 v5
  let c4_i32_318 : BitVec 32 := 4#32
  let v312 : BitVec 32 := Scalar.muli v13 c4_i32_318
  let v313 : BitVec 32 := Scalar.addi v311 v312
  let c2_i32_315 : BitVec 32 := 2#32
  let c1_i32_319 : BitVec 32 := 1#32
  let v314 : BitVec 32 := Scalar.muli c2_i32_315 c1_i32_319
  let v315 : BitVec 32 := Scalar.addi v313 v314
  v315.toNat
def k0_dev36 (d0 : Dev nD) : Nat :=
  let c0_i32_330 : BitVec 32 := 0#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_5 v2
  let c8_i32_329 : BitVec 32 := 8#32
  let v324 : BitVec 32 := Scalar.muli v14 c8_i32_329
  let v325 : BitVec 32 := Scalar.addi c0_i32_330 v324
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c4_i32_331 : BitVec 32 := 4#32
  let v326 : BitVec 32 := Scalar.muli v15 c4_i32_331
  let v327 : BitVec 32 := Scalar.addi v325 v326
  let c2_i32_328 : BitVec 32 := 2#32
  let c1_i32_332 : BitVec 32 := 1#32
  let v328 : BitVec 32 := Scalar.muli c2_i32_328 c1_i32_332
  let v329 : BitVec 32 := Scalar.addi v327 v328
  v329.toNat
def k0_off14 (d0 : Dev nD) (c256_i32_337 : BitVec 32) : Fin 2 → Nat :=
  let c64_i32_336 : BitVec 32 := 64#32
  let c2_i32_335 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_3 v2
  let v336 : BitVec 32 := Scalar.muli c2_i32_335 v12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v337 : BitVec 32 := Scalar.addi v336 v5
  let v338 : BitVec 32 := Scalar.muli c64_i32_336 v337
  let v339 : BitVec 32 := Scalar.addi c256_i32_337 v338
  let c0_i32_347 : BitVec 32 := 0#32
  ![v339.toNat, 0]
def k0_off14_at (r : Fin 3) : BitVec 32 :=
  if r.val < 1 then
    256#32
  else
    if r.val < 2 then
      768#32
    else
      0#32
def k0_off15 (d0 : Dev nD) (c256_i32_352 : BitVec 32) : Fin 2 → Nat :=
  let c64_i32_351 : BitVec 32 := 64#32
  let c2_i32_350 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v350 : BitVec 32 := Scalar.muli c2_i32_350 v2
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_4 v5
  let v351 : BitVec 32 := Scalar.addi v350 v13
  let v352 : BitVec 32 := Scalar.muli c64_i32_351 v351
  let v353 : BitVec 32 := Scalar.addi c256_i32_352 v352
  let c0_i32_362 : BitVec 32 := 0#32
  ![v353.toNat, 0]
def k0_off15_at (r : Fin 3) : BitVec 32 :=
  if r.val < 1 then
    256#32
  else
    if r.val < 2 then
      768#32
    else
      0#32
def k0_off16 (d0 : Dev nD) (c256_i32_367 : BitVec 32) : Fin 2 → Nat :=
  let c64_i32_366 : BitVec 32 := 64#32
  let c2_i32_365 : BitVec 32 := 2#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_5 v2
  let v364 : BitVec 32 := Scalar.muli c2_i32_365 v14
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v365 : BitVec 32 := Scalar.addi v364 v15
  let v366 : BitVec 32 := Scalar.muli c64_i32_366 v365
  let v367 : BitVec 32 := Scalar.addi c256_i32_367 v366
  let c0_i32_377 : BitVec 32 := 0#32
  ![v367.toNat, 0]
def k0_off16_at (r : Fin 3) : BitVec 32 :=
  if r.val < 1 then
    256#32
  else
    if r.val < 2 then
      768#32
    else
      0#32
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_82 : BitVec 32 := 3#32
  let v126 : BitVec 1 := Scalar.cmpi .eq v8 c3_i32_82
  let v127 : BitVec 32 := Scalar.extui v126
  let c0_i32_83 : BitVec 32 := 0#32
  let v128 : BitVec 1 := Scalar.cmpi .ne v127 c0_i32_83
  v128

def k0_off17 (d0 : Dev nD) (c512_i32 : BitVec 32) : Fin 2 → Nat :=
  let c64_i32 : BitVec 32 := 64#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v11 : BitVec 32 := Scalar.muli c64_i32 v10
  let v177 : BitVec 32 := Scalar.addi c512_i32 v11
  let c0_i32_193 : BitVec 32 := 0#32
  ![v177.toNat, 0]
def k0_dev37 (d0 : Dev nD) : Nat :=
  let c0_i32_204 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_3 v2
  let c8_i32_203 : BitVec 32 := 8#32
  let v190 : BitVec 32 := Scalar.muli v12 c8_i32_203
  let v191 : BitVec 32 := Scalar.addi c0_i32_204 v190
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_205 : BitVec 32 := 4#32
  let v192 : BitVec 32 := Scalar.muli v5 c4_i32_205
  let v193 : BitVec 32 := Scalar.addi v191 v192
  let c3_i32_202 : BitVec 32 := 3#32
  let c1_i32_206 : BitVec 32 := 1#32
  let v194 : BitVec 32 := Scalar.muli c3_i32_202 c1_i32_206
  let v195 : BitVec 32 := Scalar.addi v193 v194
  v195.toNat
def k0_dev38 (d0 : Dev nD) : Nat :=
  let c0_i32_217 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_216 : BitVec 32 := 8#32
  let v204 : BitVec 32 := Scalar.muli v2 c8_i32_216
  let v205 : BitVec 32 := Scalar.addi c0_i32_217 v204
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_4 v5
  let c4_i32_218 : BitVec 32 := 4#32
  let v206 : BitVec 32 := Scalar.muli v13 c4_i32_218
  let v207 : BitVec 32 := Scalar.addi v205 v206
  let c3_i32_215 : BitVec 32 := 3#32
  let c1_i32_219 : BitVec 32 := 1#32
  let v208 : BitVec 32 := Scalar.muli c3_i32_215 c1_i32_219
  let v209 : BitVec 32 := Scalar.addi v207 v208
  v209.toNat
def k0_dev39 (d0 : Dev nD) : Nat :=
  let c0_i32_230 : BitVec 32 := 0#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_5 v2
  let c8_i32_229 : BitVec 32 := 8#32
  let v218 : BitVec 32 := Scalar.muli v14 c8_i32_229
  let v219 : BitVec 32 := Scalar.addi c0_i32_230 v218
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c4_i32_231 : BitVec 32 := 4#32
  let v220 : BitVec 32 := Scalar.muli v15 c4_i32_231
  let v221 : BitVec 32 := Scalar.addi v219 v220
  let c3_i32_228 : BitVec 32 := 3#32
  let c1_i32_232 : BitVec 32 := 1#32
  let v222 : BitVec 32 := Scalar.muli c3_i32_228 c1_i32_232
  let v223 : BitVec 32 := Scalar.addi v221 v222
  v223.toNat
def k0_dev40 (d0 : Dev nD) : Nat :=
  let c0_i32_254 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_3 v2
  let c8_i32_253 : BitVec 32 := 8#32
  let v243 : BitVec 32 := Scalar.muli v12 c8_i32_253
  let v244 : BitVec 32 := Scalar.addi c0_i32_254 v243
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_255 : BitVec 32 := 4#32
  let v245 : BitVec 32 := Scalar.muli v5 c4_i32_255
  let v246 : BitVec 32 := Scalar.addi v244 v245
  let c3_i32_252 : BitVec 32 := 3#32
  let c1_i32_256 : BitVec 32 := 1#32
  let v247 : BitVec 32 := Scalar.muli c3_i32_252 c1_i32_256
  let v248 : BitVec 32 := Scalar.addi v246 v247
  v248.toNat
def k0_dev41 (d0 : Dev nD) : Nat :=
  let c0_i32_267 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_266 : BitVec 32 := 8#32
  let v257 : BitVec 32 := Scalar.muli v2 c8_i32_266
  let v258 : BitVec 32 := Scalar.addi c0_i32_267 v257
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_4 v5
  let c4_i32_268 : BitVec 32 := 4#32
  let v259 : BitVec 32 := Scalar.muli v13 c4_i32_268
  let v260 : BitVec 32 := Scalar.addi v258 v259
  let c3_i32_265 : BitVec 32 := 3#32
  let c1_i32_269 : BitVec 32 := 1#32
  let v261 : BitVec 32 := Scalar.muli c3_i32_265 c1_i32_269
  let v262 : BitVec 32 := Scalar.addi v260 v261
  v262.toNat
def k0_dev42 (d0 : Dev nD) : Nat :=
  let c0_i32_280 : BitVec 32 := 0#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_5 v2
  let c8_i32_279 : BitVec 32 := 8#32
  let v271 : BitVec 32 := Scalar.muli v14 c8_i32_279
  let v272 : BitVec 32 := Scalar.addi c0_i32_280 v271
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c4_i32_281 : BitVec 32 := 4#32
  let v273 : BitVec 32 := Scalar.muli v15 c4_i32_281
  let v274 : BitVec 32 := Scalar.addi v272 v273
  let c3_i32_278 : BitVec 32 := 3#32
  let c1_i32_282 : BitVec 32 := 1#32
  let v275 : BitVec 32 := Scalar.muli c3_i32_278 c1_i32_282
  let v276 : BitVec 32 := Scalar.addi v274 v275
  v276.toNat
def k0_dev43 (d0 : Dev nD) : Nat :=
  let c0_i32_304 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_3 v2
  let c8_i32_303 : BitVec 32 := 8#32
  let v296 : BitVec 32 := Scalar.muli v12 c8_i32_303
  let v297 : BitVec 32 := Scalar.addi c0_i32_304 v296
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_305 : BitVec 32 := 4#32
  let v298 : BitVec 32 := Scalar.muli v5 c4_i32_305
  let v299 : BitVec 32 := Scalar.addi v297 v298
  let c3_i32_302 : BitVec 32 := 3#32
  let c1_i32_306 : BitVec 32 := 1#32
  let v300 : BitVec 32 := Scalar.muli c3_i32_302 c1_i32_306
  let v301 : BitVec 32 := Scalar.addi v299 v300
  v301.toNat
def k0_dev44 (d0 : Dev nD) : Nat :=
  let c0_i32_317 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_316 : BitVec 32 := 8#32
  let v310 : BitVec 32 := Scalar.muli v2 c8_i32_316
  let v311 : BitVec 32 := Scalar.addi c0_i32_317 v310
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_4 v5
  let c4_i32_318 : BitVec 32 := 4#32
  let v312 : BitVec 32 := Scalar.muli v13 c4_i32_318
  let v313 : BitVec 32 := Scalar.addi v311 v312
  let c3_i32_315 : BitVec 32 := 3#32
  let c1_i32_319 : BitVec 32 := 1#32
  let v314 : BitVec 32 := Scalar.muli c3_i32_315 c1_i32_319
  let v315 : BitVec 32 := Scalar.addi v313 v314
  v315.toNat
def k0_dev45 (d0 : Dev nD) : Nat :=
  let c0_i32_330 : BitVec 32 := 0#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_5 v2
  let c8_i32_329 : BitVec 32 := 8#32
  let v324 : BitVec 32 := Scalar.muli v14 c8_i32_329
  let v325 : BitVec 32 := Scalar.addi c0_i32_330 v324
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c4_i32_331 : BitVec 32 := 4#32
  let v326 : BitVec 32 := Scalar.muli v15 c4_i32_331
  let v327 : BitVec 32 := Scalar.addi v325 v326
  let c3_i32_328 : BitVec 32 := 3#32
  let c1_i32_332 : BitVec 32 := 1#32
  let v328 : BitVec 32 := Scalar.muli c3_i32_328 c1_i32_332
  let v329 : BitVec 32 := Scalar.addi v327 v328
  v329.toNat
def k0_off18 (d0 : Dev nD) (c512_i32_337 : BitVec 32) : Fin 2 → Nat :=
  let c64_i32_336 : BitVec 32 := 64#32
  let c2_i32_335 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_3 v2
  let v336 : BitVec 32 := Scalar.muli c2_i32_335 v12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v337 : BitVec 32 := Scalar.addi v336 v5
  let v338 : BitVec 32 := Scalar.muli c64_i32_336 v337
  let v339 : BitVec 32 := Scalar.addi c512_i32_337 v338
  let c0_i32_347 : BitVec 32 := 0#32
  ![v339.toNat, 0]
def k0_off19 (d0 : Dev nD) (c512_i32_352 : BitVec 32) : Fin 2 → Nat :=
  let c64_i32_351 : BitVec 32 := 64#32
  let c2_i32_350 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v350 : BitVec 32 := Scalar.muli c2_i32_350 v2
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_4 v5
  let v351 : BitVec 32 := Scalar.addi v350 v13
  let v352 : BitVec 32 := Scalar.muli c64_i32_351 v351
  let v353 : BitVec 32 := Scalar.addi c512_i32_352 v352
  let c0_i32_362 : BitVec 32 := 0#32
  ![v353.toNat, 0]
def k0_off20 (d0 : Dev nD) (c512_i32_367 : BitVec 32) : Fin 2 → Nat :=
  let c64_i32_366 : BitVec 32 := 64#32
  let c2_i32_365 : BitVec 32 := 2#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_5 v2
  let v364 : BitVec 32 := Scalar.muli c2_i32_365 v14
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v365 : BitVec 32 := Scalar.addi v364 v15
  let v366 : BitVec 32 := Scalar.muli c64_i32_366 v365
  let v367 : BitVec 32 := Scalar.addi c512_i32_367 v366
  let c0_i32_377 : BitVec 32 := 0#32
  ![v367.toNat, 0]
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 1
  | .vmem => 0
  | .smem => 0
  | _ => 0

abbrev bufTy : (tb : Table) → Fin (tcTables nBuf tb) → BufTy
  | .hbm, ⟨0, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
# The mesh of the exchange: devices, neighbours and semaphores

Sixteen devices sit on a 2×2×4 mesh; device `c` has plane position `c / 4` (its place among the four devices that
share a `z` coordinate) and `z` coordinate `c % 4`. A device first exchanges quarter blocks with the three other
devices of its `z` ring (`zp d`, the device `d + 1` steps further along `z`), and then passes each quarter it received
on to the three other devices of its plane (`peer r`). This module names those neighbours, the semaphores of the two
stages, and the finite facts about them.
-/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import Idealize.ShloMosaic.Lib.Pipeline.Launch
public import Idealize.ShloMosaic.Lib.Pipeline.Kit
public import Idealize.ShloMosaic.Lib.Rounds
public import Idealize.ShloMosaic.Lib.Ring.Trips
public import Idealize.ShloMosaic.Lib.Tactic

@[expose] public section

noncomputable section

namespace Cert.Exchange

open Cert.Kernel Cert.Kernel.Gen
open Idealize.ShloMosaic Idealize.ShloMosaic.TcCoe

/-! ## Devices -/

/-- The `z` coordinate of a device. -/
def zc (c : Dev nD) : Fin 4 := ⟨c.val % 4, Nat.mod_lt _ (by decide)⟩

/-- The plane position of a device. -/
def qc (c : Dev nD) : Fin 4 := ⟨c.val / 4, Nat.div_lt_of_lt_mul c.isLt⟩

set_option backward.proofsInPublic true in
/-- The device at plane position `q` and `z` coordinate `z`. -/
def devAt (q z : Fin 4) : Dev nD := ⟨4 * q.val + z.val, by have := q.isLt; have := z.isLt; show _ < 16; omega⟩

set_option backward.proofsInPublic true in
/-- The device `d + 1` steps further along `z`. -/
def zp (d : Fin 3) (c : Dev nD) : Dev nD :=
  ⟨4 * (c.val / 4) + (c.val % 4 + d.val + 1) % 4, by have := c.isLt; change c.val < 16 at this; show _ < 16; omega⟩

set_option backward.proofsInPublic true in
/-- The three other devices of the plane: across `x`, across `y`, across both. -/
def peer (r : Fin 3) (c : Dev nD) : Dev nD :=
  ⟨8 * ((c.val / 8 + (r.val + 1) % 2) % 2) + 4 * ((c.val / 4 + (r.val + 1) / 2) % 2) + c.val % 4, by show _ < 16; omega⟩

/-- The slot a device receives from the device `d + 1` steps before it. -/
def sl (d : Fin 3) (c : Dev nD) : Fin 4 := ⟨(c.val % 4 + 3 - d.val) % 4, Nat.mod_lt _ (by decide)⟩

/-- The distance back: `opp d + 1` further steps close the ring after `d + 1`. -/
def opp (d : Fin 3) : Fin 3 := ⟨2 - d.val, by omega⟩

/-- The distance back of the distance back is the distance. -/
theorem opp_opp (d : Fin 3) : opp (opp d) = d := by revert d; decide
/-- A step along `z` and the step back cancel, -/
theorem zp_opp (d : Fin 3) (c : Dev nD) : zp (opp d) (zp d c) = c := by revert d c; decide
/-- in either order. -/
theorem zp_opp' (d : Fin 3) (c : Dev nD) : zp d (zp (opp d) c) = c := by revert d c; decide
/-- Crossing the plane twice the same way comes back. -/
theorem peer_peer (r : Fin 3) (c : Dev nD) : peer r (peer r c) = c := by revert r c; decide
/-- A neighbour along `z` receives into the slot of the sender. -/
theorem sl_zp (d : Fin 3) (c : Dev nD) : sl d (zp d c) = zc c := by revert d c; decide
/-- Steps along `z` keep the plane position. -/
theorem qc_zp (d : Fin 3) (c : Dev nD) : qc (zp d c) = qc c := by revert d c; decide
/-- The devices of a plane receive into the same slots; -/
theorem sl_peer (d r : Fin 3) (c : Dev nD) : sl d (peer r c) = sl d c := by revert d r c; decide
/-- they share their `z` coordinate. -/
theorem zc_peer (r : Fin 3) (c : Dev nD) : zc (peer r c) = zc c := by revert r c; decide
/-- No arrival comes into a device's own slot. -/
theorem sl_ne_zc (d : Fin 3) (c : Dev nD) : sl d c ≠ zc c := by revert d c; decide
/-- A step along `z` changes the coordinate. -/
theorem zc_zp_ne (d : Fin 3) (c : Dev nD) : zc (zp d c) ≠ zc c := by revert d c; decide
/-- Different distances have different slots, -/
theorem sl_inj (c : Dev nD) (d e : Fin 3) : sl d c = sl e c → d = e := by revert d e c; decide
/-- and lead to different coordinates. -/
theorem zc_zp_inj (c : Dev nD) (d e : Fin 3) : zc (zp d c) = zc (zp e c) → d = e := by revert d e c; decide
/-- Crossing the plane changes the position; -/
theorem qc_peer_ne (r : Fin 3) (c : Dev nD) : qc (peer r c) ≠ qc c := by revert r c; decide
/-- different crossings lead to different positions. -/
theorem qc_peer_inj (c : Dev nD) (r s : Fin 3) : qc (peer r c) = qc (peer s c) → r = s := by revert r s c; decide
/-- A device is where its coordinates say. -/
theorem devAt_qc_zc (c : Dev nD) : devAt (qc c) (zc c) = c := by revert c; decide
/-- Every slot is a device's own or one it receives into. -/
theorem sl_cover (c : Dev nD) (s : Fin 4) : s = zc c ∨ ∃ d, s = sl d c := by revert s c; decide
/-- Every plane position is a device's own or a neighbour's. -/
theorem qc_cover (c : Dev nD) (q : Fin 4) : q = qc c ∨ ∃ r, q = qc (peer r c) := by revert q c; decide

/-- Going `d + 1` steps along `z`, as a permutation of the devices. -/
def zpE (d : Fin 3) : Dev nD ≃ Dev nD := ⟨zp d, zp (opp d), zp_opp d, zp_opp' d⟩

/-- Crossing the plane, as a permutation of the devices. -/
def peerE (r : Fin 3) : Dev nD ≃ Dev nD := ⟨peer r, peer r, peer_peer r, peer_peer r⟩

/-! ## Semaphores -/

/-- The runtime's barrier semaphore of the kernel. -/
abbrev barS : Sem sig := (SemArray.scalar (sig.barrier 0 rfl) : Sems sig S_).sem

/-- The semaphore of the send to distance `d + 1` along `z`; -/
def szS (d : Fin 3) : DmaSem sig := ⟨2 + d.val, by have := d.isLt; show _ < 26; omega⟩
/-- of the arrival from distance `d + 1` back; -/
def rzS (d : Fin 3) : DmaSem sig := ⟨5 + d.val, by have := d.isLt; show _ < 26; omega⟩
/-- of passing that arrival on to plane neighbour `r`; -/
def spS (r d : Fin 3) : DmaSem sig := ⟨8 + 3 * r.val + d.val, by have := d.isLt; have := r.isLt; show _ < 26; omega⟩
/-- of the same block arriving from plane neighbour `r`. -/
def rpS (r d : Fin 3) : DmaSem sig := ⟨17 + 3 * r.val + d.val, by have := d.isLt; have := r.isLt; show _ < 26; omega⟩

/-- The semaphores of the exchange on one device. -/
inductive Ch where
  | bar
  | sz (d : Fin 3)
  | rz (d : Fin 3)
  | sp (r d : Fin 3)
  | rp (r d : Fin 3)
  deriving DecidableEq

/-- The semaphores of a device, sorted by stage. -/
def chE : (Unit ⊕ Fin 3 ⊕ Fin 3 ⊕ (Fin 3 × Fin 3) ⊕ (Fin 3 × Fin 3)) ≃ Ch where
  toFun
    | .inl _ => .bar
    | .inr (.inl d) => .sz d
    | .inr (.inr (.inl d)) => .rz d
    | .inr (.inr (.inr (.inl (r, d)))) => .sp r d
    | .inr (.inr (.inr (.inr (r, d)))) => .rp r d
  invFun
    | .bar => .inl ()
    | .sz d => .inr (.inl d)
    | .rz d => .inr (.inr (.inl d))
    | .sp r d => .inr (.inr (.inr (.inl (r, d))))
    | .rp r d => .inr (.inr (.inr (.inr (r, d))))
  left_inv := by rintro (_ | _ | _ | ⟨_, _⟩ | ⟨_, _⟩) <;> rfl
  right_inv := by rintro (_ | _ | _ | _ | _) <;> rfl

instance : Fintype Ch := Fintype.ofEquiv _ chE

/-- Where each of them lies. -/
def semOf : Ch → SemLoc sig
  | .bar => .reg barS
  | .sz d => .dma (szS d)
  | .rz d => .dma (rzS d)
  | .sp r d => .dma (spS r d)
  | .rp r d => .dma (rpS r d)

/-- Different semaphores lie in different places. -/
theorem semOf_inj : Function.Injective semOf := by
  unfold Function.Injective; decide +kernel

open Classical in
/-- Which semaphore of the exchange a place holds, if any. -/
def chOf : SemLoc sig → Option Ch := Function.partialInv semOf

/-- The semaphore found at a semaphore's place is that semaphore. -/
theorem chOf_semOf (h : Ch) : chOf (semOf h) = some h := Function.partialInv_left semOf_inj h

/-- The cell of semaphore `h` on device `c`. -/
abbrev cell (c : Dev nD) (h : Ch) : GSem nD τ sig := ((c : Thread nD τ), semOf h)

end Cert.Exchange

end
-- ==== Proof.Blocks.lean ====
/-
# The blocks of the exchange and what they hold

A device's argument is staged as a 256×1024 buffer and its result as a 1024×256 one. The result has four slots of 256
rows, one per `z` coordinate, each of four quarter blocks of 64 rows, one per plane position; the argument has the
matching blocks of 64 rows and 256 columns. This module states which elements each block covers, what the whole result
holds in the end (`outF`), and that each transfer and the one local copy write exactly that.
-/
module

public import proofs.«01_k».proof.Proof.Mesh

@[expose] public section

noncomputable section

namespace Cert.Exchange

open Cert.Kernel Cert.Kernel.Gen
open Idealize.ShloMosaic Idealize.ShloMosaic.TcCoe

variable {F : FTy → Type}

/-- The staged argument and the staged result. -/
abbrev xM : Memref sig .tc .vmem S256x1024 .f32 := Memref.whole cc0_stg0_0
/-- The staged result, as one buffer. -/
abbrev oM : Memref sig .tc .vmem S1024x256 .f32 := Memref.whole cc0_stg1_0

/-! ## Rectangles -/

/-- Where quarter `q` of slot `s` of the result begins; -/
def oOff (s q : Fin 4) : Fin 2 → ℕ := ![256 * s.val + 64 * q.val, 0]
/-- where quarter `q` of column group `t` of the argument begins; -/
def xOff (t q : Fin 4) : Fin 2 → ℕ := ![64 * q.val, 256 * t.val]
/-- where slot `s` of the result begins; -/
def slotOff (s : Fin 4) : Fin 2 → ℕ := ![256 * s.val, 0]
/-- where column group `t` of the argument begins. -/
def colOff (t : Fin 4) : Fin 2 → ℕ := ![0, 256 * t.val]

/-- The quarters of the result lie inside it; -/
theorem oOff_inb : ∀ s q : Fin 4, ∀ a, oOff s q a + S64x256.size a ≤ S1024x256.size a := by decide
/-- so do those of the argument, -/
theorem xOff_inb : ∀ t q : Fin 4, ∀ a, xOff t q a + S64x256.size a ≤ S256x1024.size a := by decide
/-- the slots of the result -/
theorem slotOff_inb : ∀ s : Fin 4, ∀ a, slotOff s a + S256x256.size a ≤ S1024x256.size a := by decide
/-- and the column groups of the argument. -/
theorem colOff_inb : ∀ t : Fin 4, ∀ a, colOff t a + S256x256.size a ≤ S256x1024.size a := by decide

/-- Quarter `q` of slot `s` of the result, as a rectangle; -/
abbrev oR (s q : Fin 4) : Rect S1024x256 := Rect.unit (s := S1024x256) (oOff s q) S64x256.size (oOff_inb s q)
/-- quarter `q` of column group `t` of the argument; -/
abbrev xR (t q : Fin 4) : Rect S256x1024 := Rect.unit (s := S256x1024) (xOff t q) S64x256.size (xOff_inb t q)
/-- slot `s` of the result; -/
abbrev slotR (s : Fin 4) : Rect S1024x256 := Rect.unit (s := S1024x256) (slotOff s) S256x256.size (slotOff_inb s)
/-- column group `t` of the argument. -/
abbrev colR (t : Fin 4) : Rect S256x1024 := Rect.unit (s := S256x1024) (colOff t) S256x256.size (colOff_inb t)

/-- Quarter `q` of slot `s` of the result; quarter `q` of column group `t` of the argument. -/
abbrev oB (s q : Fin 4) : Memref sig .tc .vmem S64x256 .f32 := oM.slice (oR s q) (fun _ => rfl)
/-- Quarter `q` of column group `t` of the argument. -/
abbrev xB (t q : Fin 4) : Memref sig .tc .vmem S64x256 .f32 := xM.slice (xR t q) (fun _ => rfl)

/-- What the transfer of one block counts on a semaphore. -/
abbrev N : ℕ := (oB 0 0).view.dmaCredit
/-- A block counts something. -/
theorem N_pos : 0 < N := View.dmaCredit_pos _ (by decide)

/-- Every block counts the same. -/
theorem credit_oB (s q : Fin 4) : (oB s q).view.dmaCredit = N := rfl

/-! ## Which elements a block covers -/

/-- A quarter of the result covers its rectangle; -/
theorem oB_set (s q : Fin 4) : (oB s q).view.set = (oR s q).set := View.set_slice_whole _ _
/-- so does a quarter of the argument, -/
theorem xB_set (t q : Fin 4) : (xB t q).view.set = (xR t q).set := View.set_slice_whole _ _
/-- a slot of the result -/
theorem slot_set (s : Fin 4) : (oM.access (slotR s)).set = (slotR s).set := View.set_slice_whole _ _
/-- and a column group of the argument. -/
theorem col_set (t : Fin 4) : (xM.access (colR t)).set = (colR t).set := View.set_slice_whole _ _

/-- An element lies in the quarter that its row names; -/
theorem mem_oR (s q : Fin 4) (i : S1024x256.Idx) : i ∈ (oR s q).set ↔ (i 0).val / 64 = 4 * s.val + q.val := by
  have h1 : (i 1).val < 256 := (i 1).isLt
  rw [Rect.mem_set_unit]
  simp only [Fin.forall_fin_two, oOff, Matrix.cons_val_zero, Matrix.cons_val_one]
  change (256 * s.val + 64 * q.val ≤ (i 0).val ∧ (i 0).val < 256 * s.val + 64 * q.val + 64) ∧ (0 ≤ (i 1).val ∧ (i 1).val < 0 + 256) ↔ _
  omega

/-- and in the slot that its row names. -/
theorem mem_slotR (s : Fin 4) (i : S1024x256.Idx) : i ∈ (slotR s).set ↔ (i 0).val / 256 = s.val := by
  have h1 : (i 1).val < 256 := (i 1).isLt
  rw [Rect.mem_set_unit]
  simp only [Fin.forall_fin_two, slotOff, Matrix.cons_val_zero, Matrix.cons_val_one]
  change (256 * s.val ≤ (i 0).val ∧ (i 0).val < 256 * s.val + 256) ∧ (0 ≤ (i 1).val ∧ (i 1).val < 0 + 256) ↔ _
  omega

/-- Different column groups of the argument share no element, whole columns or quarters. -/
theorem xR_disjoint {t u : Fin 4} (p q : Fin 4) (h : t ≠ u) : Disjoint (xR t p).set (xR u q).set := by
  have h' : t.val ≠ u.val := fun e => h (Fin.ext e)
  refine Rect.unit_disjoint (1 : Fin 2) ?_
  change 256 * t.val + 256 ≤ 256 * u.val ∨ 256 * u.val + 256 ≤ 256 * t.val
  omega

/-- A whole column group shares no element with a quarter of another. -/
theorem colR_disjoint {t u : Fin 4} (q : Fin 4) (h : t ≠ u) : Disjoint (colR t).set (xR u q).set := by
  have h' : t.val ≠ u.val := fun e => h (Fin.ext e)
  refine Rect.unit_disjoint (1 : Fin 2) ?_
  change 256 * t.val + 256 ≤ 256 * u.val ∨ 256 * u.val + 256 ≤ 256 * t.val
  omega

/-! ## The result in the parts that change hands

Seen from device `c`: its own slot; for each distance `d` the quarter that arrives along `z` (`(d, none)`), and the
quarters that arrive from each plane neighbour `r` (`(d, some r)`). -/

/-- The parts of the result of a device. -/
abbrev Part : Type := Option (Fin 3 × Option (Fin 3))

/-- The plane position a part of a foreign slot belongs to. -/
def qOf (c : Dev nD) : Option (Fin 3) → Fin 4
  | none => qc c
  | some r => qc (peer r c)

/-- The elements of a part. -/
def part (c : Dev nD) : Part → Finset S1024x256.Idx
  | none => (slotR (zc c)).set
  | some (d, o) => (oR (sl d c) (qOf c o)).set

/-- Different parts of a slot are different quarters. -/
theorem qOf_inj (c : Dev nD) (o p : Option (Fin 3)) (h : qOf c o = qOf c p) : o = p := by
  rcases o with _ | r <;> rcases p with _ | s
  · rfl
  · exact absurd h.symm (qc_peer_ne s c)
  · exact absurd h (qc_peer_ne r c)
  · exact congrArg some (qc_peer_inj c r s h)

/-- The parts share no element. -/
theorem part_disjoint (c : Dev nD) : ∀ a ∈ (Finset.univ : Finset Part), ∀ b ∈ (Finset.univ : Finset Part), a ≠ b → Disjoint (part c a) (part c b) := by
  intro a _ b _ hab
  rw [Finset.disjoint_left]
  intro i ha hb
  apply hab
  rcases a with _ | ⟨d, o⟩ <;> rcases b with _ | ⟨e, p⟩
  · rfl
  · have h1 := (mem_slotR _ _).mp ha
    have h2 := (mem_oR _ _ _).mp hb
    exact absurd (Fin.ext (by have := (qOf c p).isLt; omega)) (sl_ne_zc e c)
  · have h1 := (mem_slotR _ _).mp hb
    have h2 := (mem_oR _ _ _).mp ha
    exact absurd (Fin.ext (by have := (qOf c o).isLt; omega)) (sl_ne_zc d c)
  · have h1 := (mem_oR _ _ _).mp ha
    have h2 := (mem_oR _ _ _).mp hb
    have hp := (qOf c p).isLt
    have ho := (qOf c o).isLt
    have hd : d = e := sl_inj c d e (Fin.ext (by omega))
    have hq : o = p := qOf_inj c o p (Fin.ext (by omega))
    rw [hd, hq]

/-- Every element lies in some part. -/
theorem part_cover (c : Dev nD) (i : S1024x256.Idx) : ∃ a, i ∈ part c a := by
  have hi : (i 0).val < 1024 := (i 0).isLt
  rcases sl_cover c ⟨(i 0).val / 256, by omega⟩ with h | ⟨d, h⟩
  · exact ⟨none, (mem_slotR _ _).mpr (congrArg Fin.val h)⟩
  · have h := congrArg Fin.val h
    have hq : ∃ o, (⟨(i 0).val / 64 % 4, by omega⟩ : Fin 4) = qOf c o := by
      rcases qc_cover c ⟨(i 0).val / 64 % 4, by omega⟩ with h' | ⟨r, h'⟩
      · exact ⟨none, h'⟩
      · exact ⟨some r, h'⟩
    obtain ⟨o, h'⟩ := hq
    have h' := congrArg Fin.val h'
    refine ⟨some (d, o), (mem_oR _ _ _).mpr ?_⟩
    simp only at h h'
    omega

/-- The parts make up the result. -/
theorem part_union (c : Dev nD) : (Finset.univ : Finset Part).biUnion (part c) = Finset.univ :=
  Finset.eq_univ_of_forall fun i => by
    obtain ⟨a, ha⟩ := part_cover c i
    exact Finset.mem_biUnion.mpr ⟨a, Finset.mem_univ a, ha⟩

/-! ## What the result holds in the end -/

/-- Row `a`, column `b` of the argument. -/
def xIx (a b : ℕ) : S256x1024.Idx := fun k =>
  match k with
  | ⟨0, _⟩ => (⟨a % 256, Nat.mod_lt _ (by decide)⟩ : Fin 256)
  | ⟨1, _⟩ => (⟨b % 1024, Nat.mod_lt _ (by decide)⟩ : Fin 1024)

/-- An element of the argument is the one at its row and column. -/
theorem eq_xIx (i : S256x1024.Idx) : i = xIx (i 0).val (i 1).val := by
  funext k
  match k with
  | ⟨0, _⟩ => exact Fin.ext (Nat.mod_eq_of_lt (i 0).isLt).symm
  | ⟨1, _⟩ => exact Fin.ext (Nat.mod_eq_of_lt (i 1).isLt).symm

set_option backward.proofsInPublic true in
/-- The device whose argument element `i` of the result of device `c` is taken from: `c` itself in its own slot, and
    elsewhere the device whose `z` coordinate is the slot and whose plane position is the quarter. -/
def srcDev (c : Dev nD) (i : S1024x256.Idx) : Dev nD :=
  if (i 0).val / 256 = (zc c).val then c
  else devAt ⟨(i 0).val / 64 % 4, Nat.mod_lt _ (by decide)⟩ ⟨(i 0).val / 256 % 4, Nat.mod_lt _ (by decide)⟩

variable (X : Dev nD → S256x1024.Idx → Elt F .f32)

/-- The result of device `c` when device `e` holds the argument `X e`. -/
def outF (c : Dev nD) : S1024x256.Idx → Elt F .f32 :=
  fun i => X (srcDev c i) (xIx ((i 0).val % 256) (256 * (zc c).val + (i 1).val))

/-- A quarter sent `d + 1` steps along `z` lands as the receiver's result. -/
theorem land_z (c : Dev nD) (d : Fin 3) (fd : (oB (zc c) (qc c)).view.ty.Contents (Elt F)) :
    ∀ i ∈ (oB (zc c) (qc c)).view.set,
      (oB (zc c) (qc c)).view.write (Elt F) fd ((xB (zc (zp d c)) (qc c)).view.read (Elt F) (X c)) Finset.univ i = outF X (zp d c) i := by
  intro i hi
  obtain ⟨y, -, rfl⟩ := Finset.mem_map.mp hi
  rw [View.write_emb_of_mem _ _ (Finset.mem_univ y)]
  have h0 : (((oR (zc c) (qc c)).emb y : S1024x256.Idx) 0).val = 256 * (zc c).val + 64 * (qc c).val + 1 * (y 0).val := rfl
  have h1 : (((oR (zc c) (qc c)).emb y : S1024x256.Idx) 1).val = 0 + 1 * (y 1).val := rfl
  have g0 : (((xR (zc (zp d c)) (qc c)).emb y : S256x1024.Idx) 0).val = 64 * (qc c).val + 1 * (y 0).val := rfl
  have g1 : (((xR (zc (zp d c)) (qc c)).emb y : S256x1024.Idx) 1).val = 256 * (zc (zp d c)).val + 1 * (y 1).val := rfl
  have y0 : (y 0).val < 64 := (y 0).isLt
  have y1 : (y 1).val < 256 := (y 1).isLt
  have hz := (zc c).isLt
  have hq := (qc c).isLt
  change X c ((xR (zc (zp d c)) (qc c)).emb y) = outF X (zp d c) ((oR (zc c) (qc c)).emb y)
  have hs : srcDev (zp d c) ((oR (zc c) (qc c)).emb y) = c := by
    unfold srcDev
    rw [if_neg (fun h => zc_zp_ne d c (Fin.ext (by rw [← h, h0]; omega)))]
    refine Eq.trans ?_ (devAt_qc_zc c)
    congr 1 <;> refine Fin.ext ?_ <;> simp only [h0] <;> omega
  unfold outF
  rw [hs, eq_xIx ((xR (zc (zp d c)) (qc c)).emb y), g0, g1, h0, h1]
  congr 2 <;> omega

/-- Outside their own slot two devices of one plane end with the same result: passing a quarter on copies it. -/
theorem outF_peer (r : Fin 3) (c : Dev nD) (i : S1024x256.Idx) (h : (i 0).val / 256 ≠ (zc c).val) :
    outF X (peer r c) i = outF X c i := by
  unfold outF srcDev
  rw [zc_peer, if_neg h, if_neg h]

/-- A quarter passed on in the plane lands as the receiver's result. -/
theorem land_p (c : Dev nD) (r d : Fin 3) (q : Fin 4) (fd : (oB (sl d c) q).view.ty.Contents (Elt F)) :
    ∀ i ∈ (oB (sl d c) q).view.set,
      (oB (sl d c) q).view.write (Elt F) fd ((oB (sl d c) q).view.read (Elt F) (outF X c)) Finset.univ i = outF X (peer r c) i := by
  intro i hi
  have hi' := hi
  rw [oB_set] at hi'
  have hm := (mem_oR _ _ _).mp hi'
  rw [outF_peer X r c i (fun h => sl_ne_zc d c (Fin.ext (by have := q.isLt; omega)))]
  obtain ⟨y, -, rfl⟩ := Finset.mem_map.mp hi
  rw [View.write_emb_of_mem _ _ (Finset.mem_univ y)]
  rfl

/-- The columns of a device's own group, stored into its own slot, are its result there. -/
theorem land_own (c : Dev nD) (fd : S1024x256.Idx → Elt F .f32) (w : S256x256.Idx → Elt F .f32)
    (hw : w = (xM.access (colR (zc c))).read (Elt F) (X c)) :
    ∀ i ∈ (slotR (zc c)).set, (oM.access (slotR (zc c))).write (Elt F) fd w Finset.univ i = outF X c i := by
  intro i hi
  subst hw
  rw [← slot_set] at hi
  obtain ⟨y, -, rfl⟩ := Finset.mem_map.mp hi
  rw [View.write_emb_of_mem _ _ (Finset.mem_univ y)]
  have h0 : (((slotR (zc c)).emb y : S1024x256.Idx) 0).val = 256 * (zc c).val + 1 * (y 0).val := rfl
  have h1 : (((slotR (zc c)).emb y : S1024x256.Idx) 1).val = 0 + 1 * (y 1).val := rfl
  have g0 : (((colR (zc c)).emb y : S256x1024.Idx) 0).val = 0 + 1 * (y 0).val := rfl
  have g1 : (((colR (zc c)).emb y : S256x1024.Idx) 1).val = 256 * (zc c).val + 1 * (y 1).val := rfl
  have y0 : (y 0).val < 256 := (y 0).isLt
  have y1 : (y 1).val < 256 := (y 1).isLt
  change X c ((colR (zc c)).emb y) = outF X c ((slotR (zc c)).emb y)
  have hs : srcDev c ((slotR (zc c)).emb y) = c := by
    unfold srcDev
    rw [if_pos (by rw [h0]; omega)]
  unfold outF
  rw [hs, eq_xIx ((colR (zc c)).emb y), g0, g1, h0, h1]
  congr 2 <;> omega

end Cert.Exchange

end
-- ==== Proof.Schedule.lean ====
/-
# The schedule of the exchange

Every semaphore of the exchange runs one round. A barrier semaphore counts six units, one from each neighbour along `z`
and one from each plane neighbour; with its unit a neighbour hands over the blocks of its result that this device will
write. Every other semaphore counts one block, and hands its waiter the block that moved. This module states that
schedule, the order in which a device pays what it owes, and why every wait is allowed: a device waits only on
semaphores of a stage before everything it still owes.
-/
module

public import proofs.«01_k».proof.Proof.Blocks

@[expose] public section

noncomputable section

namespace Cert.Exchange

open Cert.Kernel Cert.Kernel.Gen
open Idealize.ShloMosaic Idealize.ShloMosaic.TcCoe Idealize.SL Idealize.SL.RA Idealize.SL.BI Idealize.SL.BI.BIBase
open Idealize.SL.BI.Laws Idealize.SL.ProofMode Idealize.SL.Sem Idealize.ShloMosaic.Rounds
open scoped Idealize.SL.BI

/-! ## Resources -/

/-- A duty of a semaphore: which side of the mesh pays it (`false` along `z`, `true` in the plane) and which neighbour. -/
abbrev Duty : Type := Bool × Fin 3

/-- The exchange's own ghost state beside the staging pipeline's. -/
abbrev UB : Type := URounds (GSem nD τ sig) Duty
/-- The ghost state of both. -/
abbrev UU : Type := UR sig nD τ × UB

variable {F : FTy → Type}

local notation "𝕄" => MT nD τ sig Unit (Elt F) ℕ UU ℕ

/-- Where the staging pipeline's part lies; -/
abbrev EP : Emb (UR sig nD τ) 𝕄 := embL
/-- where the exchange's lies. -/
abbrev ER : Emb UB 𝕄 := embR

/-- Quarter `q` of slot `s` of the result of device `c`, holding what `f` holds there. -/
def oPts (c : Dev nD) (s q : Fin 4) (p : PosShare TreeShare) (f : S1024x256.Idx → Elt F .f32) : sProp 𝕄 :=
  (oB s q).view.loc (c : Thread nD τ) ↦[(oB s q).view.set]{p} f

/-- Quarter `q` of column group `t` of the argument of device `c`. -/
def xPts (c : Dev nD) (t q : Fin 4) (f : S256x1024.Idx → Elt F .f32) : sProp 𝕄 :=
  (xB t q).view.loc (c : Thread nD τ) ↦[(xB t q).view.set]{fullShare} f

/-- The three parts a full block is cut into, one per plane neighbour. -/
abbrev third (r : Fin 3) : PosShare TreeShare := Ring.shares3 fullShare r

instance oPts_storable (c : Dev nD) (s q : Fin 4) (p : PosShare TreeShare) (f : S1024x256.Idx → Elt F .f32) :
    BI.Storable (upEmb : UEmb _ 𝕄) (oPts c s q p f) := by unfold oPts; infer_instance
instance xPts_storable (c : Dev nD) (t q : Fin 4) (f : S256x1024.Idx → Elt F .f32) :
    BI.Storable (upEmb : UEmb _ 𝕄) (xPts c t q f) := by unfold xPts; infer_instance

variable (X : Dev nD → S256x1024.Idx → Elt F .f32)

/-- What the waiter of semaphore `h` of device `c` receives for each duty paid. -/
def pay (c : Dev nD) : Ch → Duty → sProp 𝕄
  | .bar, (false, d) => iprop(∃ f, oPts (zp d c) (zc c) (qc c) fullShare f)
  | .bar, (true, r) => bigSep Finset.univ fun d : Fin 3 => iprop(∃ f, oPts (peer r c) (sl d c) (qc c) fullShare f)
  | .sz d, _ => xPts c (zc (zp d c)) (qc c) (X c)
  | .rz d, _ => oPts c (sl d c) (qc c) fullShare (outF X c)
  | .sp r d, _ => oPts c (sl d c) (qc c) (third r) (outF X c)
  | .rp r d, _ => oPts c (sl d c) (qc (peer r c)) fullShare (outF X c)

instance pay_storable (c : Dev nD) (h : Ch) (d : Duty) : BI.Storable (upEmb : UEmb _ 𝕄) (pay X c h d) := by
  rcases h with _ | _ | _ | _ | _ <;> rcases d with ⟨_ | _, _⟩ <;> unfold pay <;> infer_instance

/-- The duties of a semaphore; -/
def duts : Ch → Finset Duty
  | .bar => Finset.univ
  | _ => {(false, 0)}

/-- what each of them counts; -/
def amt : Ch → ℕ
  | .bar => 1
  | _ => N

/-- what they count together. -/
def tot : Ch → ℕ
  | .bar => 6
  | _ => N

/-- Every duty counts something. -/
theorem amt_pos (h : Ch) : 0 < amt h := by
  rcases h with _ | _ | _ | _ | _
  · exact Nat.one_pos
  all_goals exact N_pos

/-- The duties of a semaphore count its total. -/
theorem tot_eq (h : Ch) : ∑ _d ∈ duts h, amt h = tot h := by
  rcases h with _ | _ | _ | _ | _
  · exact (Finset.sum_const _).trans (by decide)
  all_goals exact Finset.sum_singleton _ _

/-- The exchange: one round of every semaphore. -/
def Rd : Rounds.Schedule (GSem nD τ sig) Duty 𝕄 where
  duties g r := if r = 0 ∧ g.1.2 = .tc then (chOf g.2).elim ∅ duts else ∅
  unitless _ := False
  amount g _ _ := (chOf g.2).elim 1 amt
  payload g _ d := (chOf g.2).elim iprop(emp) fun h => pay X g.1.1 h d
  amount_pos g _ _ _ := by
    rcases chOf g.2 with _ | h
    · exact Nat.one_pos
    · exact amt_pos h

instance Rd_storable (g : GSem nD τ sig) (r : ℕ) (d : Duty) : BI.Storable (upEmb : UEmb _ 𝕄) ((Rd X).payload g r d) := by
  show BI.Storable upEmb ((chOf g.2).elim iprop(emp) fun h => pay X g.1.1 h d)
  rcases chOf g.2 with _ | h
  · show BI.Storable upEmb iprop(emp); infer_instance
  · exact pay_storable X g.1.1 h d

/-- The duties of a semaphore in its round; -/
theorem duties_cell (c : Dev nD) (h : Ch) : (Rd X).duties (cell c h) 0 = duts h := by
  dsimp only [Rd]; rw [if_pos ⟨rfl, rfl⟩, chOf_semOf]; rfl
/-- there are none later; -/
theorem duties_later (g : GSem nD τ sig) : ∀ r, 1 ≤ r → (Rd X).duties g r = ∅ :=
  fun r hr => by dsimp only [Rd]; exact if_neg fun h => by omega
/-- what each counts; -/
theorem amount_cell (c : Dev nD) (h : Ch) (d : Duty) : (Rd X).amount (cell c h) 0 d = amt h := by
  dsimp only [Rd]; rw [chOf_semOf]; rfl
/-- what each hands over; -/
theorem payload_cell (c : Dev nD) (h : Ch) (d : Duty) : (Rd X).payload (cell c h) 0 d = pay X c h d := by
  dsimp only [Rd]; rw [chOf_semOf]; rfl
/-- and what a waiter of the whole round expects. -/
theorem expect_cell (c : Dev nD) (h : Ch) : (Rd X).expect (cell c h) 0 = tot h := by
  unfold Schedule.expect Schedule.amountOf
  rw [duties_cell, ← tot_eq h]; exact Finset.sum_congr rfl fun d _ => amount_cell X c h d

/-- What a whole round of semaphore `h` hands its waiter. -/
theorem rest_cell (c : Dev nD) (h : Ch) :
    bigSep ((Rd X).duties (cell c h) 0 \ ∅) (fun d => (Rd X).payload (cell c h) 0 d) = bigSep (duts h) (pay X c h) := by
  rw [Finset.sdiff_empty, duties_cell]; exact bigSep_congr fun d _ => payload_cell X c h d

/-! ## What a device owes, in the order it pays -/

/-- One block, or one unit of a barrier, for each of the listed semaphores. -/
def owesOf : List (Dev nD × Ch) → CellTallies nD τ sig Unit
  | [] => 0
  | p :: l => owesOf l + tallyAt (cell p.1 p.2) () (amt p.2)

/-- The order in which a device takes up the quarters it receives along `z`. -/
def ord (c : Dev nD) : List (Fin 3) := match zc c with
  | 0 => [2, 1, 0]
  | 1 => [0, 2, 1]
  | 2 => [0, 2, 1]
  | 3 => [0, 1, 2]

/-- Every order takes up all three. -/
theorem ord_perm (c : Dev nD) : (ord c).Perm [0, 1, 2] := by revert c; decide

/-- What is owed for passing on the quarter from distance `d + 1`. -/
def fwdOwed (c : Dev nD) (d : Fin 3) : List (Dev nD × Ch) := [(peer 0 c, .rp 0 d), (peer 1 c, .rp 1 d), (peer 2 c, .rp 2 d)]
/-- What is owed once the barrier is passed, -/
def sendOwed (c : Dev nD) (ds : List (Fin 3)) : List (Dev nD × Ch) := ds.map (fun d => (zp d c, .rz d)) ++ (ord c).flatMap (fwdOwed c)
/-- and before it. -/
def allOwed (c : Dev nD) : List (Dev nD × Ch) :=
  [(zp 0 c, .bar), (zp 1 c, .bar), (zp 2 c, .bar), (peer 0 c, .bar), (peer 1 c, .bar), (peer 2 c, .bar)] ++ sendOwed c [0, 1, 2]

/-! ## Levels -/

/-- The stage of a semaphore: barrier, arrivals along `z`, arrivals in the plane. -/
def lvl : Ch → ℕ
  | .bar => 1
  | .rz _ => 2
  | .rp _ _ => 3
  | _ => 0

/-- Every semaphore of a core has one level; -/
def L (g : GSem nD τ sig) : Finset Unit := if g.1.2 = .tc then {()} else ∅
/-- this one. -/
def lv (g : GSem nD τ sig) (_ : Unit) : ℕ := (chOf g.2).elim 0 lvl

/-- Other threads have none. -/
theorem L_of_ne (g : GSem nD τ sig) (h : g.1.2 ≠ .tc) : L g = ∅ := if_neg h
/-- A core has its level. -/
theorem L_tc (c : Dev nD) (sm : SemLoc sig) : L ((c : Thread nD τ), sm) = {()} := if_pos rfl
/-- The level of a semaphore of the exchange is its stage. -/
theorem lv_cell (c : Dev nD) (h : Ch) : lv (cell c h) () = lvl h := by unfold lv; rw [chOf_semOf]; rfl

/-- What a list owes, it owes to a listed semaphore. -/
theorem owesOf_pos (l : List (Dev nD × Ch)) {g : GSem nD τ sig} {u : Unit} (h : 0 < owesOf l g u) : ∃ p ∈ l, g = cell p.1 p.2 := by
  induction l with
  | nil => exact absurd h (Nat.lt_irrefl 0)
  | cons p l ih =>
    by_cases hg : g = cell p.1 p.2
    · exact ⟨p, List.mem_cons_self, hg⟩
    · unfold owesOf at h
      rw [Pi.add_apply, Finsupp.add_apply, tallyAt_apply, if_neg (fun h' => hg h'.1)] at h
      obtain ⟨p', hp, hc⟩ := ih h
      exact ⟨p', List.mem_cons_of_mem _ hp, hc⟩

/-- A device may wait on a semaphore whose stage comes before everything it owes. -/
theorem mayWait (c : Dev nD) (sm : SemLoc sig) (n : ℕ) (hn : lv ((c : Thread nD τ), sm) () ≤ n) (l : List (Dev nD × Ch)) (hl : ∀ p ∈ l, n < lvl p.2) :
    (levAts L lv : sProp 𝕄) ⊢ MayWait (c : Thread nD τ) sm () (owesOf l) :=
  MayOwe.of_cut (L := L) (lev := lv) n (fun p hp => by rw [Finset.mem_singleton.mp hp, L_tc]; exact Finset.mem_singleton_self _)
    (fun g u hg => by obtain ⟨p, _, rfl⟩ := owesOf_pos l hg; exact Finset.mem_singleton_self _)
    (fun p hp => by rw [Finset.mem_singleton.mp hp]; exact hn)
    (fun g u hg => by obtain ⟨p, hp, rfl⟩ := owesOf_pos l hg; exact (hl p hp).trans_eq (lv_cell p.1 p.2).symm)

end Cert.Exchange

end
-- ==== Proof.Program.lean ====
/-
# The kernel's program, step by step

The kernel is a straight line of operations for each `z` coordinate. This module writes that line as loops over the
distances along `z` and over the plane neighbours (`bodyP`), with every block, neighbour and semaphore named as in the
schedule, and shows that the kernel is this program.
-/
module

public import proofs.«01_k».proof.Proof.Schedule

@[expose] public section

noncomputable section

namespace Cert.Exchange

open Cert.Kernel Cert.Kernel.Gen
open Idealize.ShloMosaic Idealize.ShloMosaic.TcCoe Idealize.SL Idealize.SL.Sem

variable {F : FTy → Type} [FloatOps F]

/-- A program of the kernel's core. -/
abbrev P (F : FTy → Type) (α : Type) := Prog (TpuEff nD τ sig (Elt F) Λ₀ .tc) α

omit [FloatOps F] in
/-- One step for every member of a list, in order. -/
def seqL {ι : Type} : List ι → (ι → P F PUnit) → P F PUnit
  | [], _ => .ret ⟨⟩
  | i :: l, p => (p i).bind fun _ => seqL l p

/-- The first quarter block of the argument and of the result: operands that a wait names for their size only. -/
abbrev x0 : Memref sig .tc .vmem S64x256 .f32 := xM.slice (Rect.unit (s := S256x1024) ![0, 0] S64x256.size inb_S256x1024_S64x256_0_0) (fun _ => rfl)
/-- The first quarter of the result, which a wait names for its size only. -/
abbrev o0 : Memref sig .tc .vmem S64x256 .f32 := oM.slice (Rect.unit (s := S1024x256) ![0, 0] S64x256.size inb_S1024x256_S64x256_0_0) (fun _ => rfl)

/-- One unit to the barrier of device `c'`. -/
def bump (c' : Dev nD) : P F PUnit := .op (.semSignal (c' : Thread nD τ) barS 1) .ret

omit [FloatOps F] in
/-- Wait for one block on semaphore `s`, the block being one of the result; -/
def takeO (s : DmaSem sig) : P F PUnit := .op (.waitDma2 s x0 o0 (View.wordExact_bits rfl) (View.wordExact_bits rfl)) .ret
/-- the block being one of the argument. -/
def takeX (s : DmaSem sig) : P F PUnit := .op (.waitDma2 s o0 x0 (View.wordExact_bits rfl) (View.wordExact_bits rfl)) .ret

/-- Send the quarter for distance `d + 1` along `z`. -/
def sendZ (c : Dev nD) (d : Fin 3) : P F PUnit :=
  .op (.enqueueDma (xB (zc (zp d c)) (qc c)) (.remote (zp d c : Thread nD τ) (oB (zc c) (qc c)) (.dma (szS d))) (.dma (rzS d))
    (View.wordExact_bits rfl) (View.wordExact_bits rfl) ⟨⟨rfl, Or.inl rfl⟩, trivial⟩) .ret

/-- Pass the quarter received from distance `d + 1` back on to plane neighbour `r`. -/
def passOn (c : Dev nD) (d r : Fin 3) : P F PUnit :=
  .op (.enqueueDma (oB (sl d c) (qc c)) (.remote (peer r c : Thread nD τ) (oB (sl d c) (qc c)) (.dma (spS r d))) (.dma (rpS r d))
    (View.wordExact_bits rfl) (View.wordExact_bits rfl) ⟨⟨rfl, Or.inl rfl⟩, trivial⟩) .ret

/-- Wait for the quarter from distance `d + 1` back and pass it on. -/
def relay (c : Dev nD) (d : Fin 3) : P F PUnit := (takeO (rzS d)).bind fun _ => seqL [0, 1, 2] (passOn c d)

/-- Wait for the three quarters the plane neighbours pass on from distance `d + 1`. -/
def gather (d : Fin 3) : P F PUnit := seqL [0, 1, 2] fun r => takeO (rpS r d)

/-- Wait until the four transfers out of distance `d + 1` have left. -/
def drain (d : Fin 3) : P F PUnit := (takeX (szS d)).bind fun _ => seqL [0, 1, 2] fun r => takeX (spS r d)

/-- The second stage: every quarter passed on, then every quarter gathered. -/
def stage2 (c : Dev nD) (l : List (Fin 3)) : P F PUnit := (seqL l (relay c)).bind fun _ => seqL l gather

/-- Copy the device's own columns of the argument into its own slot of the result. -/
def keepOwn (c : Dev nD) : P F PUnit :=
  .op (.load xM (colR (zc c)).toLoadRect (View.loadsAt_vmem h_S256x256)) fun v =>
    .op (.load oM (slotR (zc c)).toLoadRect (View.loadsAt_vmem h_S256x256)) fun _ =>
      .op (.store oM (slotR (zc c)) (k0_pay1 v) Finset.univ (View.stores_vmem_bits_univ h_S256x256 rfl) (.inl rfl)) .ret

/-- The whole program of device `c`. -/
def bodyP (c : Dev nD) : P F PUnit :=
  (seqL [0, 1, 2] fun d => bump (zp d c)).bind fun _ =>
    (seqL [0, 1, 2] fun r => bump (peer r c)).bind fun _ =>
      (.op (.semWait barS 6) fun _ => (seqL [0, 1, 2] (sendZ c)).bind fun _ =>
        (keepOwn c).bind fun _ => (stage2 c (ord c)).bind fun _ => seqL [0, 1, 2] drain)

/-! ## The four branches -/

omit [FloatOps F] in
/-- Programs that begin with the same operation and go on the same are the same. -/
theorem op_congr {α β : Type} {e e' : TpuEff nD τ sig (Elt F) Λ₀ .tc β} {k k' : β → P F α} (h : e = e') (h' : ∀ x, k x = k' x) :
    Prog.op e k = Prog.op e' k' := by
  obtain rfl : k = k' := funext h'
  rw [h]

omit [FloatOps F] in
/-- A transfer of one block of the result is `passOn`'s when it starts at the same place and goes to the same device. -/
theorem pass_eq {c : Dev nD} {d r : Fin 3} {off off' : Fin 2 → ℕ} {dev : Dev nD} {s s' : DmaSem sig} {inb inb' h₁ h₂ h₃ h₄}
    (ho : off = oOff (sl d c) (qc c)) (ho' : off' = oOff (sl d c) (qc c)) (hd : dev.val = (peer r c).val) (hs : s = spS r d) (hs' : s' = rpS r d) :
    (TpuEff.enqueueDma (oM.slice (Rect.unit (s := S1024x256) off S64x256.size inb) (fun _ => rfl))
      (.remote (Dev.tc dev) (oM.slice (Rect.unit (s := S1024x256) off' S64x256.size inb') (fun _ => rfl)) (.dma s) h₁) (.dma s') h₂ h₃ h₄
        : TpuEff nD τ sig (Elt F) Λ₀ .tc PUnit)
      = .enqueueDma (oB (sl d c) (qc c)) (.remote (peer r c : Thread nD τ) (oB (sl d c) (qc c)) (.dma (spS r d))) (.dma (rpS r d))
          (View.wordExact_bits rfl) (View.wordExact_bits rfl) ⟨⟨rfl, Or.inl rfl⟩, trivial⟩ := by
  obtain rfl : dev = peer r c := Fin.ext hd
  subst ho ho' hs hs'
  rfl

/-- Which blocks and devices the branch of `z = 0` names; -/
theorem at_branch1 : ∀ c : Dev nD, k0_cond1 c = 1#1 →
    (k0_off5 c 256#32 = oOff (sl 2 c) (qc c) ∧ k0_off5 c 512#32 = oOff (sl 1 c) (qc c) ∧ k0_off5 c 768#32 = oOff (sl 0 c) (qc c))
    ∧ (k0_dev10 c = (peer 0 c).val ∧ k0_dev11 c = (peer 1 c).val ∧ k0_dev12 c = (peer 2 c).val)
    ∧ (k0_dev13 c = (peer 0 c).val ∧ k0_dev14 c = (peer 1 c).val ∧ k0_dev15 c = (peer 2 c).val)
    ∧ (k0_dev16 c = (peer 0 c).val ∧ k0_dev17 c = (peer 1 c).val ∧ k0_dev18 c = (peer 2 c).val) := by
  decide +kernel

/-- that of `z = 1`; -/
theorem at_branch2 : ∀ c : Dev nD, k0_cond2 c = 1#1 →
    (k0_off9 c 0#32 = oOff (sl 0 c) (qc c) ∧ k0_off9 c 512#32 = oOff (sl 2 c) (qc c) ∧ k0_off9 c 768#32 = oOff (sl 1 c) (qc c))
    ∧ (k0_dev19 c = (peer 0 c).val ∧ k0_dev20 c = (peer 1 c).val ∧ k0_dev21 c = (peer 2 c).val)
    ∧ (k0_dev22 c = (peer 0 c).val ∧ k0_dev23 c = (peer 1 c).val ∧ k0_dev24 c = (peer 2 c).val)
    ∧ (k0_dev25 c = (peer 0 c).val ∧ k0_dev26 c = (peer 1 c).val ∧ k0_dev27 c = (peer 2 c).val) := by
  decide +kernel

/-- that of `z = 2`; -/
theorem at_branch3 : ∀ c : Dev nD, k0_cond3 c = 1#1 →
    (k0_off13 c 256#32 = oOff (sl 0 c) (qc c) ∧ k0_off13 c 768#32 = oOff (sl 2 c) (qc c) ∧ k0_off13 c 0#32 = oOff (sl 1 c) (qc c))
    ∧ (k0_dev28 c = (peer 0 c).val ∧ k0_dev29 c = (peer 1 c).val ∧ k0_dev30 c = (peer 2 c).val)
    ∧ (k0_dev31 c = (peer 0 c).val ∧ k0_dev32 c = (peer 1 c).val ∧ k0_dev33 c = (peer 2 c).val)
    ∧ (k0_dev34 c = (peer 0 c).val ∧ k0_dev35 c = (peer 1 c).val ∧ k0_dev36 c = (peer 2 c).val) := by
  decide +kernel

/-- that of `z = 3`. -/
theorem at_branch4 : ∀ c : Dev nD, k0_cond4 c = 1#1 →
    (k0_off17 c 512#32 = oOff (sl 0 c) (qc c) ∧ k0_off17 c 256#32 = oOff (sl 1 c) (qc c) ∧ k0_off17 c 0#32 = oOff (sl 2 c) (qc c))
    ∧ (k0_dev37 c = (peer 0 c).val ∧ k0_dev38 c = (peer 1 c).val ∧ k0_dev39 c = (peer 2 c).val)
    ∧ (k0_dev40 c = (peer 0 c).val ∧ k0_dev41 c = (peer 1 c).val ∧ k0_dev42 c = (peer 2 c).val)
    ∧ (k0_dev43 c = (peer 0 c).val ∧ k0_dev44 c = (peer 1 c).val ∧ k0_dev45 c = (peer 2 c).val) := by
  decide +kernel

/-- The branch of `z` coordinate zero. -/
theorem branch1 (c : Dev nD) (a b e f g h i : BitVec 32) (hc : k0_cond1 c = 1#1) :
    k0_part10 (F := F) xM (Memref.isWhole_whole _) oM (Memref.isWhole_whole _) cc0_scratch0 cc0_scratch1 cc0_scratch2 cc0_scratch3 c a b e f g h i hc
      = stage2 c [2, 1, 0] := by
  obtain ⟨⟨o0, o1, o2⟩, ⟨d0, d1, d2⟩, ⟨d3, d4, d5⟩, d6, d7, d8⟩ := at_branch1 c hc
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part1_skel, k0_part2_skel, k0_part3_skel, k0_part4_skel, k0_part5_skel, k0_part6_skel, k0_part7_skel, k0_part8_skel, k0_part9_skel, k0_part10_skel,
    stage2, seqL, relay, gather, passOn, takeO, Prog.lift, Prog.bind_op, Prog.bind_ret, Prog.pure_eq_ret]
  repeat (first | refine op_congr rfl fun _ => ?_ | refine op_congr (pass_eq (by simp only [*]) (by simp only [*]) (by simp only [*]) rfl rfl) fun _ => ?_)
  rfl

/-- The branch of `z` coordinate one. -/
theorem branch2 (c : Dev nD) (a b e f g h i : BitVec 32) (hc : k0_cond2 c = 1#1) :
    k0_part20 (F := F) xM (Memref.isWhole_whole _) oM (Memref.isWhole_whole _) cc0_scratch0 cc0_scratch1 cc0_scratch2 cc0_scratch3 c a b e f g h i hc
      = stage2 c [0, 2, 1] := by
  obtain ⟨⟨o0, o1, o2⟩, ⟨d0, d1, d2⟩, ⟨d3, d4, d5⟩, d6, d7, d8⟩ := at_branch2 c hc
  simp only [k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part11_skel, k0_part12_skel, k0_part13_skel, k0_part14_skel, k0_part15_skel, k0_part16_skel, k0_part17_skel, k0_part18_skel, k0_part19_skel, k0_part20_skel,
    stage2, seqL, relay, gather, passOn, takeO, Prog.lift, Prog.bind_op, Prog.bind_ret, Prog.pure_eq_ret]
  repeat (first | refine op_congr rfl fun _ => ?_ | refine op_congr (pass_eq (by simp only [*]) (by simp only [*]) (by simp only [*]) rfl rfl) fun _ => ?_)
  rfl

/-- The branch of `z` coordinate two. -/
theorem branch3 (c : Dev nD) (a b e f g h i : BitVec 32) (hc : k0_cond3 c = 1#1) :
    k0_part30 (F := F) xM (Memref.isWhole_whole _) oM (Memref.isWhole_whole _) cc0_scratch0 cc0_scratch1 cc0_scratch2 cc0_scratch3 c a b e f g h i hc
      = stage2 c [0, 2, 1] := by
  obtain ⟨⟨o0, o1, o2⟩, ⟨d0, d1, d2⟩, ⟨d3, d4, d5⟩, d6, d7, d8⟩ := at_branch3 c hc
  simp only [k0_part21_eq_skeleton, k0_part22_eq_skeleton, k0_part23_eq_skeleton, k0_part24_eq_skeleton, k0_part25_eq_skeleton,
    k0_part26_eq_skeleton, k0_part27_eq_skeleton, k0_part28_eq_skeleton, k0_part29_eq_skeleton, k0_part30_eq_skeleton,
    k0_part21_skel, k0_part22_skel, k0_part23_skel, k0_part24_skel, k0_part25_skel, k0_part26_skel, k0_part27_skel, k0_part28_skel, k0_part29_skel, k0_part30_skel,
    stage2, seqL, relay, gather, passOn, takeO, Prog.lift, Prog.bind_op, Prog.bind_ret, Prog.pure_eq_ret]
  repeat (first | refine op_congr rfl fun _ => ?_ | refine op_congr (pass_eq (by simp only [*]) (by simp only [*]) (by simp only [*]) rfl rfl) fun _ => ?_)
  rfl

/-- The branch of `z` coordinate three. -/
theorem branch4 (c : Dev nD) (a b e f g h i : BitVec 32) (hc : k0_cond4 c = 1#1) :
    k0_part40 (F := F) xM (Memref.isWhole_whole _) oM (Memref.isWhole_whole _) cc0_scratch0 cc0_scratch1 cc0_scratch2 cc0_scratch3 c a b e f g h i hc
      = stage2 c [0, 1, 2] := by
  obtain ⟨⟨o0, o1, o2⟩, ⟨d0, d1, d2⟩, ⟨d3, d4, d5⟩, d6, d7, d8⟩ := at_branch4 c hc
  simp only [k0_part31_eq_skeleton, k0_part32_eq_skeleton, k0_part33_eq_skeleton, k0_part34_eq_skeleton, k0_part35_eq_skeleton,
    k0_part36_eq_skeleton, k0_part37_eq_skeleton, k0_part38_eq_skeleton, k0_part39_eq_skeleton, k0_part40_eq_skeleton,
    k0_part31_skel, k0_part32_skel, k0_part33_skel, k0_part34_skel, k0_part35_skel, k0_part36_skel, k0_part37_skel, k0_part38_skel, k0_part39_skel, k0_part40_skel,
    stage2, seqL, relay, gather, passOn, takeO, Prog.lift, Prog.bind_op, Prog.bind_ret, Prog.pure_eq_ret]
  repeat (first | refine op_congr rfl fun _ => ?_ | refine op_congr (pass_eq (by simp only [*]) (by simp only [*]) (by simp only [*]) rfl rfl) fun _ => ?_)
  rfl

/-- Each branch is taken at its own `z` coordinate. -/
theorem cond_at : ∀ c : Dev nD, (k0_cond1 c = 1#1 ↔ zc c = 0) ∧ (k0_cond2 c = 1#1 ↔ zc c = 1) ∧ (k0_cond3 c = 1#1 ↔ zc c = 2) ∧ (k0_cond4 c = 1#1 ↔ zc c = 3) := by
  decide +kernel

omit [FloatOps F] in
/-- A printed copy with the block, device and semaphores of a send along `z` is that send. -/
theorem sendZ_eq {c : Dev nD} {d : Fin 3} {off : Fin 2 → ℕ} {off' : Fin 2 → ℕ} {dev : Dev nD} {s s' : DmaSem sig} {inb inb' h₁ h₂ h₃ h₄}
    (ho : off = xOff (zc (zp d c)) (qc c)) (ho' : off' = oOff (zc c) (qc c)) (hd : dev.val = (zp d c).val) (hs : s = szS d) (hs' : s' = rzS d) :
    (TpuEff.enqueueDma (xM.slice (Rect.unit (s := S256x1024) off S64x256.size inb) (fun _ => rfl))
      (.remote (Dev.tc dev) (oM.slice (Rect.unit (s := S1024x256) off' S64x256.size inb') (fun _ => rfl)) (.dma s) h₁) (.dma s') h₂ h₃ h₄
        : TpuEff nD τ sig (Elt F) Λ₀ .tc PUnit)
      = .enqueueDma (xB (zc (zp d c)) (qc c)) (.remote (zp d c : Thread nD τ) (oB (zc c) (qc c)) (.dma (szS d))) (.dma (rzS d))
          (View.wordExact_bits rfl) (View.wordExact_bits rfl) ⟨⟨rfl, Or.inl rfl⟩, trivial⟩ := by
  obtain rfl : dev = zp d c := Fin.ext hd
  subst ho ho' hs hs'
  rfl

omit [FloatOps F] in
/-- A printed signal of one to a device is a unit to its barrier. -/
theorem bump_eq {c' dev : Dev nD} {n : ℤ} (hd : dev.val = c'.val) (hn : n = 1) :
    (TpuEff.semSignal (Dev.tc dev) barS n : TpuEff nD τ sig (Elt F) Λ₀ .tc PUnit) = .semSignal (c' : Thread nD τ) barS 1 := by
  obtain rfl : dev = c' := Fin.ext hd
  rw [hn]

/-- Where the sends along `z` and the copy of the own columns begin. -/
theorem offs_at : ∀ c : Dev nD,
    (k0_off1 c = oOff (zc c) (qc c) ∧ k0_off3 c = colOff (zc c) ∧ k0_off4 c = slotOff (zc c))
    ∧ (k0_off2 c 1#32 = xOff (zc (zp 0 c)) (qc c) ∧ k0_off2 c 2#32 = xOff (zc (zp 1 c)) (qc c) ∧ k0_off2 c 3#32 = xOff (zc (zp 2 c)) (qc c)) := by
  decide +kernel
/-- The devices that the signals and the sends along `z` name. -/
theorem devs_at : ∀ c : Dev nD,
    (k0_dev1 c = (zp 0 c).val ∧ k0_dev2 c = (zp 1 c).val ∧ k0_dev3 c = (zp 2 c).val)
    ∧ (k0_dev4 c = (peer 0 c).val ∧ k0_dev5 c = (peer 1 c).val ∧ k0_dev6 c = (peer 2 c).val)
    ∧ (k0_dev7 c = (zp 0 c).val ∧ k0_dev8 c = (zp 1 c).val ∧ k0_dev9 c = (zp 2 c).val) := by
  decide +kernel

omit [FloatOps F] in
/-- Ending with nothing more to do changes nothing. -/
theorem bind_unit (p : P F PUnit) : (p.bind fun _ => .ret ⟨⟩) = p := by
  induction p with
  | ret a => rfl
  | op e k ih => exact congrArg (Prog.op e) (funext ih)

/-- A printed load and store at the own columns and the own slot is the copy of the own columns. -/
theorem keepOwn_eq (c : Dev nD) {off off' : Fin 2 → ℕ} (inb inb' h₁ h₂ h₃ h₄) (ho : off = colOff (zc c)) (ho' : off' = slotOff (zc c)) :
    (.op (.load xM (Rect.unit (s := S256x1024) off S256x256.size inb).toLoadRect h₁) fun v =>
      .op (.load oM (Rect.unit (s := S1024x256) off' S256x256.size inb').toLoadRect h₂) fun _ =>
        .op (.store oM (Rect.unit (s := S1024x256) off' S256x256.size inb') (k0_pay1 v) Finset.univ h₃ h₄) .ret : P F PUnit) = keepOwn c := by
  subst ho ho'
  rfl

/-- The program from the last send along `z` on. -/
theorem part44 (c : Dev nD) (a b e f g h i j k l : BitVec 32) :
    k0_part44 (F := F) xM (Memref.isWhole_whole _) oM (Memref.isWhole_whole _) cc0_scratch0 cc0_scratch1 cc0_scratch2 cc0_scratch3 c a b e f g h i j k l
      = (sendZ c 2).bind fun _ => (keepOwn c).bind fun _ => stage2 c (ord c) := by
  obtain ⟨⟨o1, o3, o4⟩, -, -, o2⟩ := offs_at c
  obtain ⟨-, -, -, -, d2⟩ := devs_at c
  obtain ⟨c1, c2, c3, c4⟩ := cond_at c
  simp only [k0_part44_eq_skeleton, k0_part44_skel, sendZ, Prog.lift, Prog.bind_op, Prog.bind_ret, Prog.pure_eq_ret]
  refine op_congr (sendZ_eq o2 o1 d2 rfl rfl) fun _ => ?_
  rw [← keepOwn_eq c (k0_off3_inb c) (k0_off4_inb c) (View.loadsAt_vmem h_S256x256) (View.loadsAt_vmem h_S256x256) (View.stores_vmem_bits_univ h_S256x256 rfl)
    (.inl rfl) o3 o4]
  simp only [Prog.bind_op, Prog.bind_ret]
  refine op_congr rfl fun v => op_congr rfl fun _ => op_congr rfl fun _ => ?_
  show _ = stage2 c (ord c)
  have hz : zc c = 0 ∨ zc c = 1 ∨ zc c = 2 ∨ zc c = 3 := by generalize zc c = z; revert z; decide
  rcases hz with hz | hz | hz | hz <;> simp [hz] at c1 c2 c3 c4 <;> simp only [ord, hz, c1, c2, c3, c4, ↓reduceDIte]
  · exact (congrArg (Prog.bind · _) (branch1 c a b f g h i j c1)).trans (bind_unit _)
  · exact (congrArg (Prog.bind · _) (branch2 c a b f g h i j c2)).trans (bind_unit _)
  · exact (congrArg (Prog.bind · _) (branch3 c a b f g h i j c3)).trans (bind_unit _)
  · exact (congrArg (Prog.bind · _) (branch4 c a b f g h i j c4)).trans (bind_unit _)

/-- The kernel's body reads its device and runs that device's program. -/
theorem body_eq : cc0_body (F := F) xM (Memref.isWhole_whole _) oM (Memref.isWhole_whole _) cc0_scratch0 cc0_scratch1 cc0_scratch2 cc0_scratch3
    = .op .deviceId bodyP := by
  simp only [cc0_body_eq_skeleton, cc0_body_skel, k0_part41_eq_skeleton, k0_part42_eq_skeleton, k0_part43_eq_skeleton, k0_part45_eq_skeleton,
    k0_part46_eq_skeleton, k0_part41_skel, k0_part42_skel, k0_part43_skel, k0_part45_skel, k0_part46_skel, part44,
    Prog.lift, Prog.bind_op, Prog.bind_ret, Prog.pure_eq_ret, semSignalWord, semWaitWord]
  refine op_congr rfl fun c => ?_
  obtain ⟨⟨o1, -, -⟩, o20, o21, -⟩ := offs_at c
  obtain ⟨⟨d1, d2, d3⟩, ⟨d4, d5, d6⟩, d7, d8, -⟩ := devs_at c
  simp only [bodyP, seqL, bump, sendZ, drain, takeX, Prog.bind_op, Prog.bind_ret]
  refine op_congr (bump_eq d1 rfl) fun _ => op_congr (bump_eq d2 rfl) fun _ => op_congr (bump_eq d3 rfl) fun _ =>
    op_congr (bump_eq d4 rfl) fun _ => op_congr (bump_eq d5 rfl) fun _ => op_congr (bump_eq d6 rfl) fun _ =>
    op_congr rfl fun _ => op_congr (sendZ_eq o20 o1 d7 rfl rfl) fun _ => op_congr (sendZ_eq o21 o1 d8 rfl rfl) fun _ => op_congr rfl fun _ => ?_
  rfl

end Cert.Exchange

end
-- ==== Proof.Steps.lean ====
/-
# One step of the exchange at a time

Each operation of the program against the schedule: a unit to a neighbour's barrier, a transfer, a wait. What a device
still owes is a list, and each payment takes its head off.
-/
module

public import proofs.«01_k».proof.Proof.Program
public import Idealize.ShloMosaic.Lib.Pipeline.BigSepL

@[expose] public section

set_option maxRecDepth 8000

noncomputable section

namespace Cert.Exchange

open Cert.Kernel Cert.Kernel.Gen
open Idealize.ShloMosaic Idealize.ShloMosaic.TcCoe Idealize.SL Idealize.SL.RA Idealize.SL.BI Idealize.SL.BI.BIBase
open Idealize.SL.BI.Laws Idealize.SL.ProofMode Idealize.SL.Sem Idealize.ShloMosaic.Rounds
open scoped Idealize.SL.BI

variable {F : FTy → Type}

local notation "𝕄" => MT nD τ sig Unit (Elt F) ℕ UU ℕ

/-- The kernel has no loop that needs a measure. -/
abbrev 𝒱₀ : Variants := Variants.none

/-- What lets device `c` run a program of its core to the postcondition `Q`. -/
abbrev WP [FloatOps F] (c : Dev nD) {α : Type} (p : P F α) (Q : α → sProp 𝕄) : sProp 𝕄 :=
  wp frame (wpE (defs₀ (F := F)) 𝒱₀ (c : Thread nD τ) none) Set.univ p Q

variable (X : Dev nD → S256x1024.Idx → Elt F .f32) (K : Dev nD × Ch → ℕ)

/-- What every device knows of every semaphore: its protocol is in force under the name `K` gave it, its round is open,
    and its stage. -/
def recs : sProp 𝕄 :=
  iprop((bigSep Finset.univ fun p : Dev nD × Ch => cellInv ER (Rd X) (K p) (cell p.1 p.2))
    ∗ (bigSep Finset.univ fun p : Dev nD × Ch => reached ER (cell p.1 p.2) 0) ∗ levAts L lv)

instance recs_persistent : BI.Persistent (recs X K) := by unfold recs; infer_instance

/-- The records hold the invariant of every semaphore, -/
theorem recs_inv (c : Dev nD) (h : Ch) : recs X K ⊢ cellInv ER (Rd X) (K (c, h)) (cell c h) := by
  unfold recs
  iintro ⟨H, -, -⟩
  have hE : (bigSep Finset.univ fun p : Dev nD × Ch => (cellInv ER (Rd X) (K p) (cell p.1 p.2) : sProp 𝕄)) ⊢ cellInv ER (Rd X) (K (c, h)) (cell c h) :=
    bigSep_elim (Finset.mem_univ (c, h))
  iapply hE; iexact H
/-- that its round has begun, -/
theorem recs_reached (c : Dev nD) (h : Ch) : recs X K ⊢ reached ER (cell c h) 0 := by
  unfold recs
  iintro ⟨-, H, -⟩
  have hE : (bigSep Finset.univ fun p : Dev nD × Ch => (reached ER (cell p.1 p.2) 0 : sProp 𝕄)) ⊢ reached ER (cell c h) 0 :=
    bigSep_elim (Finset.mem_univ (c, h))
  iapply hE; iexact H
/-- and the levels. -/
theorem recs_lev : recs X K ⊢ (levAts L lv : sProp 𝕄) := by
  unfold recs
  iintro ⟨-, -, H⟩; iexact H

/-- Device `c` owes exactly the listed payments. -/
def Ow (c : Dev nD) (l : List (Dev nD × Ch)) : sProp 𝕄 := iprop(∃ W, owes (c : Thread nD τ) (owesOf l) W)

variable [FloatOps F]

/-! ## Programs in sequence -/

/-- A program followed by another is run as the one, then the other. -/
theorem wp_bindP (c : Dev nD) {α β : Type} (p : P F α) (k : α → P F β) (Q : β → sProp 𝕄) : WP c (p.bind k) Q = WP c p fun a => WP c (k a) Q :=
  wp_bind frame _ Set.univ p k Q

/-- A program, then the rest. -/
theorem wp_then {c : Dev nD} {p : P F PUnit} {k : PUnit → P F PUnit} {Pre Post : sProp 𝕄} (h : Pre ⊢ WP c p fun _ => Post) (Q : PUnit → sProp 𝕄) :
    Pre ⊢ iprop((Post -∗ WP c (k ⟨⟩) Q) -∗ WP c (p.bind k) Q) := by
  rw [wp_bindP]
  iintro H Hk
  ihave H' := h $$ H
  iapply (wp_wand frame (wpE (defs₀ (F := F)) 𝒱₀ (c : Thread nD τ) none) Set.univ (p := p) (Q := fun _ => Post)) $$ H'
  iintro %a HP
  iapply Hk; iexact HP

/-- A loop over a list: what a step leaves owed is what the next starts with. -/
theorem wp_seqL {c : Dev nD} {ι : Type} {R : sProp 𝕄} [BI.Persistent R] (I : List ι → sProp 𝕄) (A B : ι → sProp 𝕄) (p : ι → P F PUnit)
    (h : ∀ i l, iprop(R ∗ I (i :: l) ∗ A i) ⊢ WP c (p i) fun _ => iprop(I l ∗ B i)) (l : List ι) :
    iprop(R ∗ I l ∗ bigSepL l A) ⊢ WP c (seqL l p) fun _ => iprop(I [] ∗ bigSepL l B) := by
  induction l with
  | nil =>
    unfold seqL WP
    rw [wp_ret]
    iintro ⟨-, HI, -⟩
    imodintro
    isplitl [HI]; · iexact HI
    rw [bigSepL_nil]; iempintro
  | cons i l ih =>
    unfold seqL
    rw [bigSepL_cons', bigSepL_cons']
    iintro ⟨#HR, HI, HA, HAs⟩
    iapply (wp_then (h i l)) $$ [HI HA]
    · isplitr; · iexact HR
      isplitl [HI] <;> iassumption
    iintro ⟨HI, HB⟩
    ihave H := ih $$ [HI HAs]
    · isplitr; · iexact HR
      isplitl [HI] <;> iassumption
    iapply (wp_wand frame (wpE (defs₀ (F := F)) 𝒱₀ (c : Thread nD τ) none) Set.univ (p := seqL l p) (Q := fun _ => iprop(I [] ∗ bigSepL l B))) $$ H
    iintro %a ⟨HI, HBs⟩
    isplitl [HI]; · iexact HI
    isplitl [HB] <;> iassumption

/-! ## The operations -/

/-- A unit to a neighbour's barrier pays one of its duties. -/
theorem wp_bump (c c' : Dev nD) (d : Duty) (l : List (Dev nD × Ch)) :
    iprop(recs X K ∗ Ow c ((c', .bar) :: l) ∗ dutyTok ER (cell c' .bar) 0 d ∗ pay X c' .bar d) ⊢ WP c (bump c') fun _ => Ow c l := by
  unfold Ow bump WP
  iintro ⟨#HR, ⟨%W, HO⟩, Htok, Hpay⟩
  iapply (Rounds.wp_signal 𝒱₀ ER (Rd X) (c : Thread nD τ) none (dst := (c' : Thread nD τ)) (sem := barS) (κ := K (c', .bar)) (r := 0)
      (d := d) ((congrArg (d ∈ ·) (duties_cell X c' .bar)).mpr (Finset.mem_univ d)) (amount_cell X c' .bar d) () (owesOf l) rfl (W := W))
    $$ [HO Htok Hpay]
  · isplitr; · iapply (recs_inv X K c' .bar); iexact HR
    isplitl [HO]; · iexact HO
    isplitl [Htok]; · iexact Htok
    isplitl [Hpay]; · iapply (show pay X c' .bar d ⊢ (Rd X).payload ((c' : Thread nD τ), .reg barS) 0 d from Entails.of_eq (payload_cell X c' .bar d).symm); iexact Hpay
    iapply (recs_reached X K c' .bar); iexact HR
  iintro HO
  rw [wp_ret]; imodintro
  iexists W; iexact HO

/-- A wait for all a semaphore counts brings everything its duties hand over. -/
theorem wp_take (c : Dev nD) (h : Ch) (w : TpuEff nD τ sig (Elt F) Λ₀ .tc PUnit) (l : List (Dev nD × Ch)) (hl : ∀ p ∈ l, lvl h < lvl p.2)
    (hw : ∀ Q : PUnit → sProp 𝕄, wpE (defs₀ (F := F)) 𝒱₀ (c : Thread nD τ) none Set.univ w Q = waitSpec (c : Thread nD τ) Set.univ (semOf h) (tot h) Q) :
    iprop(recs X K ∗ Ow c l ∗ cred (tallyAt (cell c h) () (tot h)) ∗ atPos ER (cell c h) 0 ∅ 0)
      ⊢ WP c (.op w .ret) fun _ => iprop(Ow c l ∗ atPos ER (cell c h) 1 ∅ 0 ∗ bigSep (duts h) (pay X c h)) := by
  have hm : recs X K ⊢ MayWait (c : Thread nD τ) (semOf h) () (owesOf l) :=
    (recs_lev X K).trans (mayWait c (semOf h) (lvl h) (le_of_eq (lv_cell c h)) l hl)
  unfold Ow WP
  iintro ⟨#HR, ⟨%W, HO⟩, Hc, Hat⟩
  iapply (Rounds.wp_wait_rest_token 𝒱₀ ER (Rd X) (c : Thread nD τ) none (κ := K (c, h))
      hw (Set.mem_univ _) () (O := owesOf l) (W := W) (R := 0) (m := 0) (T := ∅)
      (by rw [Nat.zero_add]; exact (expect_cell X c h).symm)) $$ [HO Hc Hat]
  · isplitr; · iapply (recs_inv X K c h); iexact HR
    isplitl [Hc]; · iexact Hc
    isplitl [HO]; · iexact HO
    isplitr
    · iapply hm; iexact HR
    iexact Hat
  iintro ⟨HO, Hat, -, Hpay⟩
  ihave Hp := (Entails.of_eq (rest_cell X c h)) $$ Hpay
  rw [wp_ret]; imodintro
  isplitl [HO]; · iexists _; iexact HO
  isplitl [Hat]; · iexact Hat
  iexact Hp

/-- A wait for one block of the result; -/
theorem wp_takeO (c : Dev nD) (h : Ch) (s : DmaSem sig) (hs : semOf h = .dma s) (ht : tot h = N) (l : List (Dev nD × Ch)) (hl : ∀ p ∈ l, lvl h < lvl p.2) :
    iprop(recs X K ∗ Ow c l ∗ cred (tallyAt (cell c h) () N) ∗ atPos ER (cell c h) 0 ∅ 0)
      ⊢ WP c (takeO s) fun _ => iprop(Ow c l ∗ atPos ER (cell c h) 1 ∅ 0 ∗ bigSep (duts h) (pay X c h)) := by
  rw [← ht]
  refine wp_take X K c h _ l hl fun Q => ?_
  rw [hs, ht]
  exact wpE_waitDma2_eq 𝒱₀ (c : Thread nD τ) none Set.univ Q

/-- for one block of the argument, with nothing owed. -/
theorem wp_takeX (c : Dev nD) (h : Ch) (s : DmaSem sig) (hs : semOf h = .dma s) (ht : tot h = N) :
    iprop(recs X K ∗ Ow c [] ∗ cred (tallyAt (cell c h) () N) ∗ atPos ER (cell c h) 0 ∅ 0)
      ⊢ WP c (takeX s) fun _ => iprop(Ow c [] ∗ atPos ER (cell c h) 1 ∅ 0 ∗ bigSep (duts h) (pay X c h)) := by
  rw [← ht]
  refine wp_take X K c h _ [] (fun p hp => absurd hp List.not_mem_nil) fun Q => ?_
  rw [hs, ht]
  exact wpE_waitDma2_eq 𝒱₀ (c : Thread nD τ) none Set.univ Q

/-- A transfer of one block counts `N` on its semaphore. -/
theorem amount_oB (s q : Fin 4) (x : DmaSem sig) : (oB s q).view.amount (.dma x) = N := rfl

/-- The block sent along `z` comes back to its sender; -/
theorem pay_sz (c : Dev nD) (d : Fin 3) : xPts c (zc (zp d c)) (qc c) (X c) ⊢ (Rd X).payload (cell c (.sz d)) 0 (false, 0) :=
  Entails.of_eq (payload_cell X c (.sz d) _).symm

/-- the part of a block that was passed on likewise. -/
theorem pay_sp (c : Dev nD) (d r : Fin 3) : oPts c (sl d c) (qc c) (third r) (outF X c) ⊢ (Rd X).payload (cell c (.sp r d)) 0 (false, 0) :=
  Entails.of_eq (payload_cell X c (.sp r d) _).symm

/-- What lands along `z` is what the receiver's semaphore hands over; -/
theorem pay_rz (c : Dev nD) (d : Fin 3) (fd : (oB (zc c) (qc c)).view.ty.Contents (Elt F)) :
    oPts (zp d c) (zc c) (qc c) fullShare ((oB (zc c) (qc c)).view.write (Elt F) fd ((xB (zc (zp d c)) (qc c)).view.read (Elt F) (X c)) Finset.univ)
      ⊢ (Rd X).payload (cell (zp d c) (.rz d)) 0 (false, 0) := by
  rw [payload_cell]
  refine Entails.of_eq ?_
  show _ = oPts (zp d c) (sl d (zp d c)) (qc (zp d c)) fullShare (outF X (zp d c))
  rw [sl_zp, qc_zp]
  exact pointsTo_congr (land_z X c d fd)

/-- what lands in the plane likewise. -/
theorem pay_rp (c : Dev nD) (d r : Fin 3) (fd : (oB (sl d c) (qc c)).view.ty.Contents (Elt F)) :
    oPts (peer r c) (sl d c) (qc c) fullShare ((oB (sl d c) (qc c)).view.write (Elt F) fd ((oB (sl d c) (qc c)).view.read (Elt F) (outF X c)) Finset.univ)
      ⊢ (Rd X).payload (cell (peer r c) (.rp r d)) 0 (false, 0) := by
  rw [payload_cell]
  refine Entails.of_eq ?_
  show _ = oPts (peer r c) (sl d (peer r c)) (qc (peer r (peer r c))) fullShare (outF X (peer r c))
  rw [sl_peer, peer_peer]
  exact pointsTo_congr (land_p X c r d (qc c) fd)

/-- The transfer of a quarter along `z`: it lands as the receiver's result. -/
theorem wp_sendZ (c : Dev nD) (d : Fin 3) (l : List (Dev nD × Ch)) :
    iprop(recs X K ∗ Ow c ((zp d c, .rz d) :: l)
        ∗ (xPts c (zc (zp d c)) (qc c) (X c) ∗ dutyTok ER (cell c (.sz d)) 0 (false, 0) ∗ dutyTok ER (cell (zp d c) (.rz d)) 0 (false, 0)
          ∗ ∃ f, oPts (zp d c) (zc c) (qc c) fullShare f))
      ⊢ WP c (sendZ c d) fun _ => iprop(Ow c l ∗ cred (tallyAt (cell c (.sz d)) () N)) := by
  unfold Ow WP sendZ
  iintro ⟨#HR, ⟨%W, HO⟩, Hx, Ht, Ht', ⟨%f, Ho⟩⟩
  iapply (Rounds.wp_send_pointsTo 𝒱₀ ER (Rd X) (c : Thread nD τ) none (c' := (zp d c : Thread nD τ)) (κ₁ := K (c, .sz d)) (κ₂ := K (zp d c, .rz d))
      (src := xB (zc (zp d c)) (qc c)) (dst := oB (zc c) (qc c)) (sS := .dma (szS d)) (sem := .dma (rzS d)) (fs := X c) (fd := f) (q := fullShare)
      (r₁ := 0) (r₂ := 0) (d₁ := (false, 0)) (d₂ := (false, 0))
      ((congrArg ((false, 0) ∈ ·) (duties_cell X c (.sz d))).mpr (Finset.mem_singleton_self _))
      ((congrArg ((false, 0) ∈ ·) (duties_cell X (zp d c) (.rz d))).mpr (Finset.mem_singleton_self _))
      () () N (amount_oB _ _ _) (amount_cell X c (.sz d) _) (amount_cell X (zp d c) (.rz d) _) (owesOf l) rfl (W := W)
      (pay_sz X c d) (pay_rz X c d f)) $$ [HO Hx Ho Ht Ht']
  · isplitr; · iapply (recs_inv X K c (.sz d)); iexact HR
    isplitr; · iapply (recs_inv X K (zp d c) (.rz d)); iexact HR
    isplitl [Hx]; · unfold xPts; iexact Hx
    isplitl [Ho]; · unfold oPts; iexact Ho
    isplitl [HO]; · iexact HO
    isplitl [Ht]; · iexact Ht
    isplitr; · iapply (recs_reached X K c (.sz d)); iexact HR
    isplitl [Ht']; · iexact Ht'
    iapply (recs_reached X K (zp d c) (.rz d)); iexact HR
  iintro ⟨Hc, HO⟩
  rw [wp_ret]; imodintro
  isplitl [HO]; · iexists W; iexact HO
  iexact Hc

/-- A quarter that came along `z`, passed on to one plane neighbour. -/
theorem wp_passOn (c : Dev nD) (d r : Fin 3) (l : List (Dev nD × Ch)) :
    iprop(recs X K ∗ Ow c ((peer r c, .rp r d) :: l)
        ∗ (oPts c (sl d c) (qc c) (third r) (outF X c) ∗ dutyTok ER (cell c (.sp r d)) 0 (false, 0) ∗ dutyTok ER (cell (peer r c) (.rp r d)) 0 (false, 0)
          ∗ ∃ f, oPts (peer r c) (sl d c) (qc c) fullShare f))
      ⊢ WP c (passOn c d r) fun _ => iprop(Ow c l ∗ cred (tallyAt (cell c (.sp r d)) () N)) := by
  unfold Ow WP passOn
  iintro ⟨#HR, ⟨%W, HO⟩, Hx, Ht, Ht', ⟨%f, Ho⟩⟩
  iapply (Rounds.wp_send_pointsTo 𝒱₀ ER (Rd X) (c : Thread nD τ) none (c' := (peer r c : Thread nD τ)) (κ₁ := K (c, .sp r d)) (κ₂ := K (peer r c, .rp r d))
      (src := oB (sl d c) (qc c)) (dst := oB (sl d c) (qc c)) (sS := .dma (spS r d)) (sem := .dma (rpS r d)) (fs := outF X c) (fd := f) (q := third r)
      (r₁ := 0) (r₂ := 0) (d₁ := (false, 0)) (d₂ := (false, 0))
      ((congrArg ((false, 0) ∈ ·) (duties_cell X c (.sp r d))).mpr (Finset.mem_singleton_self _))
      ((congrArg ((false, 0) ∈ ·) (duties_cell X (peer r c) (.rp r d))).mpr (Finset.mem_singleton_self _))
      () () N (amount_oB _ _ _) (amount_cell X c (.sp r d) _) (amount_cell X (peer r c) (.rp r d) _) (owesOf l) rfl (W := W)
      (pay_sp X c d r) (pay_rp X c d r f)) $$ [HO Hx Ho Ht Ht']
  · isplitr; · iapply (recs_inv X K c (.sp r d)); iexact HR
    isplitr; · iapply (recs_inv X K (peer r c) (.rp r d)); iexact HR
    isplitl [Hx]; · unfold oPts; iexact Hx
    isplitl [Ho]; · unfold oPts; iexact Ho
    isplitl [HO]; · iexact HO
    isplitl [Ht]; · iexact Ht
    isplitr; · iapply (recs_reached X K c (.sp r d)); iexact HR
    isplitl [Ht']; · iexact Ht'
    iapply (recs_reached X K (peer r c) (.rp r d)); iexact HR
  iintro ⟨Hc, HO⟩
  rw [wp_ret]; imodintro
  isplitl [HO]; · iexists W; iexact HO
  iexact Hc

end Cert.Exchange

end
-- ==== Proof.Loops.lean ====
/-
# The stages of the exchange

The loops of the program: the sends along `z`, the quarters passed on in the plane, the quarters gathered, the transfers
drained. Each is stated over all three distances or all three plane neighbours at once.
-/
module

public import proofs.«01_k».proof.Proof.Steps

@[expose] public section

set_option maxRecDepth 8000

noncomputable section

namespace Cert.Exchange

open Cert.Kernel Cert.Kernel.Gen
open Idealize.ShloMosaic Idealize.ShloMosaic.TcCoe Idealize.SL Idealize.SL.RA Idealize.SL.BI Idealize.SL.BI.BIBase
open Idealize.SL.BI.Laws Idealize.SL.ProofMode Idealize.SL.Sem Idealize.ShloMosaic.Rounds
open scoped Idealize.SL.BI

variable {F : FTy → Type}

local notation "𝕄" => MT nD τ sig Unit (Elt F) ℕ UU ℕ

/-- A full block is its three thirds. -/
theorem oPts_thirds (c : Dev nD) (s q : Fin 4) (f : S1024x256.Idx → Elt F .f32) :
    oPts c s q fullShare f = bigSep Finset.univ fun r : Fin 3 => oPts c s q (third r) f := by
  rw [bigSep_univ_eq_bigSepL [0, 1, 2] (by decide) (by decide)]
  have h := Ring.pointsTo_thirds (sig := sig) (Ix := Unit) (Val := Elt F) (Lvl := ℕ) (Name := ℕ) (U := UU) (ℓ := (oB s q).view.loc (c : Thread nD τ))
    (I := (oB s q).view.set) fullShare f
  exact equiv_iff.mp ⟨h.1, h.2⟩

/-- All semaphores of a device, by what they are for. -/
theorem bigSep_ch (P : Ch → sProp 𝕄) :
    bigSep Finset.univ P = iprop(P .bar ∗ (bigSep Finset.univ fun d => P (.sz d)) ∗ (bigSep Finset.univ fun d => P (.rz d))
      ∗ (bigSep Finset.univ fun d => bigSep Finset.univ fun r => P (.sp r d)) ∗ (bigSep Finset.univ fun d => bigSep Finset.univ fun r => P (.rp r d))) := by
  rw [bigSep_univ_equiv chE P, BI.bigSep_univ_sum, BI.bigSep_univ_sum, BI.bigSep_univ_sum, BI.bigSep_univ_sum, BI.bigSep_univ_prod, BI.bigSep_univ_prod,
    BI.bigSep_univ_comm fun r d => P (chE (.inr (.inr (.inr (.inl (r, d)))))), BI.bigSep_univ_comm fun r d => P (chE (.inr (.inr (.inr (.inr (r, d)))))),
    Finset.univ_unique, bigSep_singleton]
  rfl

variable [FloatOps F]

/-- A loop over all three of its indices, in any order. -/
theorem wp_loop {c : Dev nD} {R : sProp 𝕄} [BI.Persistent R] (I : List (Fin 3) → sProp 𝕄) (A B : Fin 3 → sProp 𝕄) (p : Fin 3 → P F PUnit)
    (l : List (Fin 3)) (hl : l.Perm [0, 1, 2]) (h : ∀ i l, iprop(R ∗ I (i :: l) ∗ A i) ⊢ WP c (p i) fun _ => iprop(I l ∗ B i)) :
    iprop(R ∗ I l ∗ bigSep Finset.univ A) ⊢ WP c (seqL l p) fun _ => iprop(I [] ∗ bigSep Finset.univ B) := by
  have hn : l.Nodup := hl.nodup_iff.mpr (by decide)
  have hu : (Finset.univ : Finset (Fin 3)) = l.toFinset := by rw [List.toFinset_eq_of_perm _ _ hl]; decide
  rw [bigSep_univ_eq_bigSepL l hu hn, bigSep_univ_eq_bigSepL l hu hn]
  exact wp_seqL I A B p h l

variable (X : Dev nD → S256x1024.Idx → Elt F .f32) (K : Dev nD × Ch → ℕ)

/-! ## Out along `z` -/

/-- What sending the quarter for distance `d + 1` takes. -/
abbrev sendIn (c : Dev nD) (d : Fin 3) : sProp 𝕄 :=
  iprop(xPts c (zc (zp d c)) (qc c) (X c) ∗ dutyTok ER (cell c (.sz d)) 0 (false, 0) ∗ dutyTok ER (cell (zp d c) (.rz d)) 0 (false, 0)
    ∗ ∃ f, oPts (zp d c) (zc c) (qc c) fullShare f)

/-- The three sends along `z`. -/
theorem wp_sends (c : Dev nD) :
    iprop(recs X K ∗ Ow c (sendOwed c [0, 1, 2]) ∗ bigSep Finset.univ (sendIn X c))
      ⊢ WP c (seqL [0, 1, 2] (sendZ c)) fun _ => iprop(Ow c (sendOwed c []) ∗ bigSep Finset.univ fun d => cred (tallyAt (cell c (.sz d)) () N)) :=
  wp_loop (fun l => Ow c (sendOwed c l)) _ _ (sendZ c) [0, 1, 2] (List.Perm.refl _) fun d l => wp_sendZ X K c d (sendOwed c l)

/-! ## On in the plane -/

/-- What passing one quarter on to plane neighbour `r` takes beside the quarter. -/
abbrev passIn (c : Dev nD) (d r : Fin 3) : sProp 𝕄 :=
  iprop(dutyTok ER (cell c (.sp r d)) 0 (false, 0) ∗ dutyTok ER (cell (peer r c) (.rp r d)) 0 (false, 0) ∗ ∃ f, oPts (peer r c) (sl d c) (qc c) fullShare f)
/-- What taking the quarter from distance `d + 1` up takes; -/
abbrev relayIn (c : Dev nD) (d : Fin 3) : sProp 𝕄 :=
  iprop(cred (tallyAt (cell c (.rz d)) () N) ∗ atPos ER (cell c (.rz d)) 0 ∅ 0 ∗ bigSep Finset.univ (passIn c d))
/-- what it leaves. -/
abbrev relayOut (c : Dev nD) (d : Fin 3) : sProp 𝕄 :=
  iprop(atPos ER (cell c (.rz d)) 1 ∅ 0 ∗ bigSep Finset.univ fun r => cred (tallyAt (cell c (.sp r d)) () N))

/-- A quarter passed on to the three plane neighbours. -/
theorem wp_passes (c : Dev nD) (d : Fin 3) (l : List (Dev nD × Ch)) :
    iprop(recs X K ∗ Ow c (fwdOwed c d ++ l) ∗ bigSep Finset.univ fun r => iprop(oPts c (sl d c) (qc c) (third r) (outF X c) ∗ passIn c d r))
      ⊢ WP c (seqL [0, 1, 2] (passOn c d)) fun _ => iprop(Ow c l ∗ bigSep Finset.univ fun r => cred (tallyAt (cell c (.sp r d)) () N)) :=
  wp_loop (fun rs => Ow c (rs.map (fun r => (peer r c, Ch.rp r d)) ++ l)) _ _ (passOn c d) [0, 1, 2] (List.Perm.refl _)
    fun r rs => wp_passOn X K c d r (rs.map (fun r => (peer r c, Ch.rp r d)) ++ l)

/-- All that is owed for passing on is owed at the last stage. -/
theorem lvl_fwd (c : Dev nD) (l : List (Fin 3)) : ∀ p ∈ l.flatMap (fwdOwed c), 2 < lvl p.2 := by
  intro p hp
  obtain ⟨d, -, hd⟩ := List.mem_flatMap.mp hp
  simp only [fwdOwed, List.mem_cons, List.not_mem_nil, or_false] at hd
  rcases hd with rfl | rfl | rfl <;> exact Nat.lt_succ_self 2

/-- An arrival along `z` is awaited and passed on. -/
theorem wp_relay (c : Dev nD) (d : Fin 3) (l : List (Fin 3)) :
    iprop(recs X K ∗ Ow c ((d :: l).flatMap (fwdOwed c)) ∗ relayIn c d)
      ⊢ WP c (relay c d) fun _ => iprop(Ow c (l.flatMap (fwdOwed c)) ∗ relayOut c d) := by
  unfold relay
  have hone : bigSep (duts (.rz d)) (pay X c (.rz d)) = bigSep Finset.univ fun r : Fin 3 => oPts c (sl d c) (qc c) (third r) (outF X c) :=
    bigSep_singleton.trans (oPts_thirds c (sl d c) (qc c) (outF X c))
  rw [List.flatMap_cons]
  iintro ⟨#HR, HO, Hc, Hat, HT⟩
  iapply (wp_then (wp_takeO X K c (.rz d) (rzS d) rfl rfl (fwdOwed c d ++ l.flatMap (fwdOwed c)) (lvl_fwd c (d :: l)))) $$ [HO Hc Hat]
  · isplitr; · iexact HR
    isplitl [HO]; · iexact HO
    isplitl [Hc] <;> iassumption
  rw [hone]
  iintro ⟨HO, Hat, Hp⟩
  ihave H := (wp_passes X K c d (l.flatMap (fwdOwed c))) $$ [HO HT Hp]
  · isplitr; · iexact HR
    isplitl [HO]; · iexact HO
    iapply (Entails.of_eq (bigSep_sep' _ _ _).symm)
    isplitl [Hp] <;> iassumption
  iapply (wp_wand frame (wpE (defs₀ (F := F)) 𝒱₀ (c : Thread nD τ) none) Set.univ (p := seqL [0, 1, 2] (passOn c d))) $$ H
  iintro %a ⟨HO, HB⟩
  isplitl [HO]; · iexact HO
  isplitl [Hat] <;> iassumption

/-! ## In from the plane -/

/-- What the arrivals from the plane at one distance need; -/
abbrev gatherIn (c : Dev nD) (d : Fin 3) : sProp 𝕄 :=
  bigSep Finset.univ fun r : Fin 3 => iprop(cred (tallyAt (cell c (.rp r d)) () N) ∗ atPos ER (cell c (.rp r d)) 0 ∅ 0)
/-- and what they leave: the quarters that arrived. -/
abbrev gatherOut (c : Dev nD) (d : Fin 3) : sProp 𝕄 :=
  bigSep Finset.univ fun r : Fin 3 => iprop(atPos ER (cell c (.rp r d)) 1 ∅ 0 ∗ oPts c (sl d c) (qc (peer r c)) fullShare (outF X c))

/-- The three arrivals from the plane at one distance. -/
theorem wp_gather (c : Dev nD) (d : Fin 3) :
    iprop(recs X K ∗ Ow c [] ∗ gatherIn c d) ⊢ WP c (gather d) fun _ => iprop(Ow c [] ∗ gatherOut X c d) :=
  wp_loop (fun _ => Ow c []) _ _ (fun r => takeO (rpS r d)) [0, 1, 2] (List.Perm.refl _) fun r _ =>
    (wp_takeO X K c (.rp r d) (rpS r d) rfl rfl [] fun p hp => absurd hp List.not_mem_nil).trans <| by
      rw [show bigSep (duts (.rp r d)) (pay X c (.rp r d)) = oPts c (sl d c) (qc (peer r c)) fullShare (outF X c) from bigSep_singleton]

/-- The second stage, in whatever order the device takes it. -/
theorem wp_stage2 (c : Dev nD) :
    iprop(recs X K ∗ Ow c ((ord c).flatMap (fwdOwed c)) ∗ (bigSep Finset.univ (relayIn c)) ∗ bigSep Finset.univ (gatherIn c))
      ⊢ WP c (stage2 c (ord c)) fun _ => iprop(Ow c [] ∗ (bigSep Finset.univ (relayOut c)) ∗ bigSep Finset.univ (gatherOut X c)) := by
  unfold stage2
  iintro ⟨#HR, HO, HA, HG⟩
  iapply (wp_then (wp_loop (fun l => Ow c (l.flatMap (fwdOwed c))) (relayIn c) (relayOut c) (relay c) (ord c) (ord_perm c)
      fun d l => wp_relay X K c d l)) $$ [HO HA]
  · isplitr; · iexact HR
    isplitl [HO] <;> iassumption
  iintro ⟨HO, HB⟩
  ihave H := (wp_loop (fun _ => Ow c []) (gatherIn c) (gatherOut X c) gather (ord c) (ord_perm c) fun d _ => wp_gather X K c d) $$ [HO HG]
  · isplitr; · iexact HR
    isplitl [HO]; · iexact HO
    iexact HG
  iapply (wp_wand frame (wpE (defs₀ (F := F)) 𝒱₀ (c : Thread nD τ) none) Set.univ (p := seqL (ord c) gather)) $$ H
  iintro %a ⟨HO, HC⟩
  isplitl [HO]; · iexact HO
  isplitl [HB] <;> iassumption

/-! ## Drained -/

/-- What the waits for the sends at one distance need; -/
abbrev drainIn (c : Dev nD) (d : Fin 3) : sProp 𝕄 :=
  iprop((cred (tallyAt (cell c (.sz d)) () N) ∗ atPos ER (cell c (.sz d)) 0 ∅ 0)
    ∗ bigSep Finset.univ fun r : Fin 3 => iprop(cred (tallyAt (cell c (.sp r d)) () N) ∗ atPos ER (cell c (.sp r d)) 0 ∅ 0))
/-- and what they leave: the blocks that were read. -/
abbrev drainOut (c : Dev nD) (d : Fin 3) : sProp 𝕄 :=
  iprop((atPos ER (cell c (.sz d)) 1 ∅ 0 ∗ xPts c (zc (zp d c)) (qc c) (X c))
    ∗ bigSep Finset.univ fun r : Fin 3 => iprop(atPos ER (cell c (.sp r d)) 1 ∅ 0 ∗ oPts c (sl d c) (qc c) (third r) (outF X c)))

/-- The waits for the sends at one distance; -/
theorem wp_drain (c : Dev nD) (d : Fin 3) :
    iprop(recs X K ∗ Ow c [] ∗ drainIn c d) ⊢ WP c (drain d) fun _ => iprop(Ow c [] ∗ drainOut X c d) := by
  unfold drain
  have hx : bigSep (duts (.sz d)) (pay X c (.sz d)) = xPts c (zc (zp d c)) (qc c) (X c) := bigSep_singleton
  have ho (r : Fin 3) : bigSep (duts (.sp r d)) (pay X c (.sp r d)) = oPts c (sl d c) (qc c) (third r) (outF X c) := bigSep_singleton
  iintro ⟨#HR, HO, ⟨Hc, Hat⟩, HA⟩
  iapply (wp_then (wp_takeX X K c (.sz d) (szS d) rfl rfl)) $$ [HO Hc Hat]
  · isplitr; · iexact HR
    isplitl [HO]; · iexact HO
    isplitl [Hc] <;> iassumption
  rw [hx]
  iintro ⟨HO, Hat, Hp⟩
  ihave H := (wp_loop (R := recs X K) (fun _ => Ow c []) _ (fun r => iprop(atPos ER (cell c (.sp r d)) 1 ∅ 0 ∗ oPts c (sl d c) (qc c) (third r) (outF X c)))
      (fun r => takeX (spS r d)) [0, 1, 2] (List.Perm.refl _) fun r _ =>
        (wp_takeX X K c (.sp r d) (spS r d) rfl rfl).trans (by rw [ho r])) $$ [HO HA]
  · isplitr; · iexact HR
    isplitl [HO]; · iexact HO
    iexact HA
  iapply (wp_wand frame (wpE (defs₀ (F := F)) 𝒱₀ (c : Thread nD τ) none) Set.univ (p := seqL [0, 1, 2] fun r => takeX (spS r d))) $$ H
  iintro %a ⟨HO, HB⟩
  isplitl [HO]; · iexact HO
  isplitl [Hat Hp]
  · isplitl [Hat] <;> iassumption
  iexact HB

/-- and at all three. -/
theorem wp_drains (c : Dev nD) :
    iprop(recs X K ∗ Ow c [] ∗ bigSep Finset.univ (drainIn c))
      ⊢ WP c (seqL [0, 1, 2] drain) fun _ => iprop(Ow c [] ∗ bigSep Finset.univ (drainOut X c)) :=
  wp_loop (fun _ => Ow c []) _ _ drain [0, 1, 2] (List.Perm.refl _) fun d _ => wp_drain X K c d

end Cert.Exchange

end
-- ==== Proof.Memory.lean ====
/-
# The buffers in parts

A device's staged result as its own slot and the quarters that change hands, its staged argument as the three quarters it
sends and the rest, and what the neighbours hand over at the barrier, by neighbour.
-/
module

public import proofs.«01_k».proof.Proof.Loops

@[expose] public section

set_option maxRecDepth 8000

noncomputable section

namespace Cert.Exchange

open Cert.Kernel Cert.Kernel.Gen
open Idealize.ShloMosaic Idealize.ShloMosaic.TcCoe Idealize.SL Idealize.SL.RA Idealize.SL.BI Idealize.SL.BI.BIBase
open Idealize.SL.BI.Laws Idealize.SL.ProofMode Idealize.SL.Sem Idealize.ShloMosaic.Rounds
open scoped Idealize.SL.BI

variable {F : FTy → Type}

local notation "𝕄" => MT nD τ sig Unit (Elt F) ℕ UU ℕ

/-- A family over an optional index is its entry at none and the others. -/
theorem bigSep_opt {α : Type} [Fintype α] (P : Option α → sProp 𝕄) :
    bigSep Finset.univ P = iprop(P none ∗ bigSep Finset.univ fun a => P (some a)) := by
  rw [bigSep_univ_equiv ((Equiv.sumComm Unit α).trans (Equiv.optionEquivSumPUnit α).symm) P, BI.bigSep_univ_sum, Finset.univ_unique, bigSep_singleton]
  rfl

/-- A block as elements of its buffer. -/
theorem oPts_eq (c : Dev nD) (s q : Fin 4) (p : PosShare TreeShare) (f : S1024x256.Idx → Elt F .f32) :
    oPts c s q p f = ((c : Thread nD τ).loc cc0_stg1_0 ↦[(oR s q).set]{p} f) := by
  unfold oPts
  exact congrArg (fun S : Finset S1024x256.Idx => (((c : Thread nD τ).loc cc0_stg1_0 ↦[S]{p} f) : sProp 𝕄)) (oB_set s q)
/-- A quarter of the argument, as a rectangle of the staged buffer. -/
theorem xPts_eq (c : Dev nD) (t q : Fin 4) (f : S256x1024.Idx → Elt F .f32) :
    xPts c t q f = ((c : Thread nD τ).loc cc0_stg0_0 ↦[(xR t q).set]{fullShare} f) := by
  unfold xPts
  exact congrArg (fun S : Finset S256x1024.Idx => (((c : Thread nD τ).loc cc0_stg0_0 ↦[S]{fullShare} f) : sProp 𝕄)) (xB_set t q)

/-- The whole staged result of device `c`; its own slot of it. -/
abbrev outPts (c : Dev nD) (f : S1024x256.Idx → Elt F .f32) : sProp 𝕄 := (c : Thread nD τ).loc cc0_stg1_0 ↦{fullShare} f
/-- The device's own slot of the result. -/
abbrev ownPts (c : Dev nD) (f : S1024x256.Idx → Elt F .f32) : sProp 𝕄 := (c : Thread nD τ).loc cc0_stg1_0 ↦[(slotR (zc c)).set]{fullShare} f

/-- The quarters of the foreign slots. -/
abbrev foreign (c : Dev nD) (f : S1024x256.Idx → Elt F .f32) : sProp 𝕄 :=
  iprop((bigSep Finset.univ fun d : Fin 3 => oPts c (sl d c) (qc c) fullShare f)
    ∗ bigSep Finset.univ fun d : Fin 3 => bigSep Finset.univ fun r : Fin 3 => oPts c (sl d c) (qc (peer r c)) fullShare f)

/-- The result buffer is the device's own slot and the foreign quarters. -/
theorem out_parts (c : Dev nD) (f : S1024x256.Idx → Elt F .f32) : outPts c f = iprop(ownPts c f ∗ foreign c f) := by
  unfold outPts foreign
  rw [← bigSep_sep', ← part_union c, pointsTo_biUnion _ _ (part_disjoint c), bigSep_opt, BI.bigSep_univ_prod]
  have h (d : Fin 3) : (bigSep Finset.univ fun o : Option (Fin 3) => (((c : Thread nD τ).loc cc0_stg1_0 ↦[part c (some (d, o))]{fullShare} f) : sProp 𝕄))
      = iprop(oPts c (sl d c) (qc c) fullShare f ∗ bigSep Finset.univ fun r : Fin 3 => oPts c (sl d c) (qc (peer r c)) fullShare f) := by
    rw [bigSep_opt, oPts_eq, bigSep_congr fun r _ => oPts_eq c (sl d c) (qc (peer r c)) fullShare f]
    rfl
  rw [bigSep_congr fun d _ => h d]
  rfl

/-- The whole staged argument; what of it is not sent along `z`. -/
abbrev argPts (c : Dev nD) (f : S256x1024.Idx → Elt F .f32) : sProp 𝕄 := (c : Thread nD τ).loc cc0_stg0_0 ↦{fullShare} f
/-- The elements of the argument that are sent along `z`; -/
abbrev sent (c : Dev nD) : Finset S256x1024.Idx := (Finset.univ : Finset (Fin 3)).biUnion fun d => (xR (zc (zp d c)) (qc c)).set
/-- and those that stay. -/
abbrev restPts (c : Dev nD) (f : S256x1024.Idx → Elt F .f32) : sProp 𝕄 := (c : Thread nD τ).loc cc0_stg0_0 ↦[Finset.univ \ sent c]{fullShare} f

/-- The argument buffer is the quarters sent and the rest. -/
theorem arg_parts (c : Dev nD) (f : S256x1024.Idx → Elt F .f32) :
    argPts c f = iprop((bigSep Finset.univ fun d : Fin 3 => xPts c (zc (zp d c)) (qc c) f) ∗ restPts c f) := by
  have h := pointsTo_split_subset (sig := sig) (Ix := Unit) (Val := Elt F) (Lvl := ℕ) (Name := ℕ) (U := UU) (ℓ := (c : Thread nD τ).loc cc0_stg0_0)
    (q := fullShare) (f := f) (Finset.subset_univ (sent c))
  refine (equiv_iff.mp ⟨h.1, h.2⟩).trans ?_
  rw [pointsTo_biUnion _ _ fun d _ e _ hde => xR_disjoint _ _ fun h => hde (zc_zp_inj c d e h)]
  rw [bigSep_congr fun d _ => xPts_eq c (zc (zp d c)) (qc c) f]

/-- The device's own columns are not sent. -/
theorem own_sub (c : Dev nD) : (colR (zc c)).set ⊆ Finset.univ \ sent c := by
  intro i hi
  refine Finset.mem_sdiff.mpr ⟨Finset.mem_univ _, fun h => ?_⟩
  obtain ⟨d, -, hd⟩ := Finset.mem_biUnion.mp h
  exact Finset.disjoint_left.mp (colR_disjoint (qc c) fun h => zc_zp_ne d c h.symm) hi hd

variable (X : Dev nD → S256x1024.Idx → Elt F .f32)

/-- What the six neighbours of `c` hand over: the blocks of their results that `c` writes. -/
theorem bar_parts (c : Dev nD) : bigSep (duts .bar) (pay X c .bar)
    = iprop((bigSep Finset.univ fun d : Fin 3 => iprop(∃ f, oPts (zp d c) (zc c) (qc c) fullShare f))
      ∗ bigSep Finset.univ fun d : Fin 3 => bigSep Finset.univ fun r : Fin 3 => iprop(∃ f, oPts (peer r c) (sl d c) (qc c) fullShare f)) := by
  show bigSep Finset.univ (pay X c .bar) = _
  rw [BI.bigSep_univ_prod, bigSep_univ_eq_bigSepL [false, true] (by decide) (by decide),
    BI.bigSep_univ_comm fun d r : Fin 3 => iprop(∃ f, oPts (F := F) (peer r c) (sl d c) (qc c) fullShare f)]
  rfl

/-- What `c` hands to its neighbours along `z`; -/
theorem give_z (c : Dev nD) : (bigSep Finset.univ fun d : Fin 3 => iprop(∃ f, oPts c (sl d c) (qc c) fullShare f))
    = bigSep Finset.univ fun d : Fin 3 => pay X (zp d c) .bar (false, opp d) := by
  rw [bigSep_univ_equiv (⟨opp, opp, opp_opp, opp_opp⟩ : Fin 3 ≃ Fin 3)]
  refine bigSep_congr fun d _ => ?_
  have hs : sl (opp d) c = zc (zp d c) := by
    have := sl_zp (opp d) (zp d c); rwa [zp_opp] at this
  show iprop(∃ f, oPts c (sl (opp d) c) (qc c) fullShare f) = iprop(∃ f, oPts (zp (opp d) (zp d c)) (zc (zp d c)) (qc (zp d c)) fullShare f)
  rw [hs, zp_opp, qc_zp]

/-- and to its plane neighbours. -/
theorem give_p (c : Dev nD) : (bigSep Finset.univ fun d : Fin 3 => bigSep Finset.univ fun r : Fin 3 => iprop(∃ f, oPts c (sl d c) (qc (peer r c)) fullShare f))
    = bigSep Finset.univ fun r : Fin 3 => pay X (peer r c) .bar (true, r) := by
  rw [BI.bigSep_univ_comm]
  refine bigSep_congr fun r _ => ?_
  show _ = bigSep Finset.univ fun d : Fin 3 => iprop(∃ f, oPts (peer r (peer r c)) (sl d (peer r c)) (qc (peer r c)) fullShare f)
  simp only [peer_peer, sl_peer]

/-- A quarter at known contents is a quarter at some contents. -/
theorem oPts_any (c : Dev nD) (s q : Fin 4) (f : S1024x256.Idx → Elt F .f32) : oPts c s q fullShare f ⊢ iprop(∃ f, oPts c s q fullShare f) := by
  iintro H; iexists f; iexact H

/-- The foreign quarters, their contents forgotten. -/
theorem foreign_any (c : Dev nD) (f : S1024x256.Idx → Elt F .f32) : foreign c f
    ⊢ iprop((bigSep Finset.univ fun d : Fin 3 => iprop(∃ f, oPts c (sl d c) (qc c) fullShare f))
      ∗ bigSep Finset.univ fun d : Fin 3 => bigSep Finset.univ fun r : Fin 3 => iprop(∃ f, oPts c (sl d c) (qc (peer r c)) fullShare f)) :=
  BIClass.sep_mono (bigSep_mono fun d _ => oPts_any c (sl d c) (qc c) f) (bigSep_mono fun d _ => bigSep_mono fun r _ => oPts_any c (sl d c) (qc (peer r c)) f)

end Cert.Exchange

end
-- ==== Proof.Body.lean ====
/-
# The whole program of one device

From the staged argument and a result buffer holding anything, with the device's tokens, credits and debts, the program
ends with the whole result, nothing owed, and every semaphore's round over.
-/
module

public import proofs.«01_k».proof.Proof.Memory
public import Idealize.ShloMosaic.Lib.Pipeline.Value

@[expose] public section

set_option maxRecDepth 8000

noncomputable section

namespace Cert.Exchange

open Cert.Kernel Cert.Kernel.Gen
open Idealize.ShloMosaic Idealize.ShloMosaic.TcCoe Idealize.SL Idealize.SL.RA Idealize.SL.BI Idealize.SL.BI.BIBase
open Idealize.SL.BI.Laws Idealize.SL.ProofMode Idealize.SL.Sem Idealize.ShloMosaic.Rounds
open scoped Idealize.SL.BI

variable {F : FTy → Type}

local notation "𝕄" => MT nD τ sig Unit (Elt F) ℕ UU ℕ

/-! ## What the program starts from and ends with -/

/-- The duties device `c` pays. -/
def toks (c : Dev nD) : sProp 𝕄 :=
  iprop((bigSep Finset.univ fun d : Fin 3 => dutyTok ER (cell (zp d c) .bar) 0 (false, opp d))
    ∗ (bigSep Finset.univ fun r : Fin 3 => dutyTok ER (cell (peer r c) .bar) 0 (true, r))
    ∗ (bigSep Finset.univ fun d : Fin 3 => dutyTok ER (cell c (.sz d)) 0 (false, 0))
    ∗ (bigSep Finset.univ fun d : Fin 3 => dutyTok ER (cell (zp d c) (.rz d)) 0 (false, 0))
    ∗ (bigSep Finset.univ fun d : Fin 3 => bigSep Finset.univ fun r : Fin 3 => dutyTok ER (cell c (.sp r d)) 0 (false, 0))
    ∗ (bigSep Finset.univ fun d : Fin 3 => bigSep Finset.univ fun r : Fin 3 => dutyTok ER (cell (peer r c) (.rp r d)) 0 (false, 0)))

/-- The credit others' payments give device `c`. -/
def creds (c : Dev nD) : sProp 𝕄 :=
  iprop(cred (tallyAt (cell c .bar) () 6)
    ∗ (bigSep Finset.univ fun d : Fin 3 => cred (tallyAt (cell c (.rz d)) () N))
    ∗ (bigSep Finset.univ fun d : Fin 3 => bigSep Finset.univ fun r : Fin 3 => cred (tallyAt (cell c (.rp r d)) () N)))

/-- Every semaphore of device `c` at the start of round `n`. -/
def places (c : Dev nD) (n : ℕ) : sProp 𝕄 := bigSep Finset.univ fun h : Ch => atPos ER (cell c h) n ∅ 0

variable [FloatOps F]

/-! ## The barrier -/

variable (X : Dev nD → S256x1024.Idx → Elt F .f32) (K : Dev nD × Ch → ℕ)

/-- A unit to each of three neighbours. -/
theorem wp_bumps (c : Dev nD) (n : Fin 3 → Dev nD) (u : Fin 3 → Duty) (l : List (Dev nD × Ch)) :
    iprop(recs X K ∗ Ow c ([0, 1, 2].map (fun d => (n d, Ch.bar)) ++ l)
        ∗ bigSep Finset.univ fun d : Fin 3 => iprop(dutyTok ER (cell (n d) .bar) 0 (u d) ∗ pay X (n d) .bar (u d)))
      ⊢ WP c (seqL [0, 1, 2] fun d => bump (n d)) fun _ => Ow c l := by
  have h := wp_loop (c := c) (R := recs X K) (fun ds => Ow c (ds.map (fun d => (n d, Ch.bar)) ++ l))
      (fun d => iprop(dutyTok ER (cell (n d) .bar) 0 (u d) ∗ pay X (n d) .bar (u d))) (fun _ => iprop(emp)) (fun d => bump (n d)) [0, 1, 2] (List.Perm.refl _)
      fun d ds => by
        rw [show iprop(Ow c (ds.map (fun d => (n d, Ch.bar)) ++ l) ∗ emp) = Ow c (ds.map (fun d => (n d, Ch.bar)) ++ l) from equiv_iff.mp sep_emp]
        exact wp_bump X K c (n d) (u d) (ds.map (fun d => (n d, Ch.bar)) ++ l)
  iintro H
  ihave H' := h $$ H
  iapply (wp_wand frame (wpE (defs₀ (F := F)) 𝒱₀ (c : Thread nD τ) none) Set.univ (p := seqL [0, 1, 2] fun d => bump (n d))) $$ H'
  iintro %a ⟨HO, -⟩
  iexact HO

/-- All that is owed after the barrier is owed at later stages than the barrier. -/
theorem lvl_send (c : Dev nD) : ∀ p ∈ sendOwed c [0, 1, 2], 1 < lvl p.2 := by
  intro p hp
  rcases List.mem_append.mp hp with h | h
  · obtain ⟨d, -, rfl⟩ := List.mem_map.mp h
    exact Nat.lt_succ_self 1
  · exact lt_trans (Nat.lt_succ_self 1) (lvl_fwd c _ p h)

/-- The wait for all six neighbours. -/
theorem wp_barrier (c : Dev nD) (k : PUnit → P F PUnit) (Q : PUnit → sProp 𝕄) :
    iprop(recs X K ∗ Ow c (sendOwed c [0, 1, 2]) ∗ cred (tallyAt (cell c .bar) () 6) ∗ atPos ER (cell c .bar) 0 ∅ 0)
      ⊢ iprop(((Ow c (sendOwed c [0, 1, 2]) ∗ atPos ER (cell c .bar) 1 ∅ 0 ∗ bigSep (duts .bar) (pay X c .bar)) -∗ WP c (k ⟨⟩) Q)
          -∗ WP c (.op (.semWait barS 6) k) Q) :=
  wp_then (p := .op (.semWait barS 6) .ret) (wp_take X K c .bar (.semWait barS 6) (sendOwed c [0, 1, 2]) (lvl_send c)
    fun Q => wpE_semWait_eq 𝒱₀ (c : Thread nD τ) none Set.univ Q) Q

/-! ## The device's own columns -/

/-- Storing the device's own columns leaves its own slot at the result. -/
theorem wp_keepOwn (c : Dev nD) :
    iprop(restPts c (X c) ∗ ∃ f, ownPts c f) ⊢ WP c (keepOwn c) fun _ => iprop(restPts c (X c) ∗ ownPts c (outF X c)) := by
  unfold keepOwn WP
  iintro ⟨Hx, ⟨%f, Ho⟩⟩
  iapply (wp_load_rect 𝒱₀ (c : Thread nD τ) none Set.univ (m := xM) (r := colR (zc c)) ((col_set (zc c)).trans_subset (own_sub c))) $$ [Hx]
  · iexact Hx
  iintro Hx
  iapply (wp_load_rect 𝒱₀ (c : Thread nD τ) none Set.univ (m := oM) (r := slotR (zc c)) (slot_set (zc c)).subset) $$ [Ho]
  · iexact Ho
  iintro Ho
  iapply (wp_store 𝒱₀ (c : Thread nD τ) none Set.univ (m := oM) (r := slotR (zc c)) (slot_set (zc c)).subset) $$ [Ho]
  · iexact Ho
  iintro Ho
  rw [wp_ret]; imodintro
  isplitl [Hx]; · iexact Hx
  have he := pointsTo_congr (sig := sig) (Ix := Unit) (Val := Elt F) (Lvl := ℕ) (Name := ℕ) (U := UU) (ℓ := (c : Thread nD τ).loc cc0_stg1_0) (q := fullShare)
    (land_own X c f (k0_pay1 ((xM.access (colR (zc c))).read (Elt F) (X c))) (shapeCast_self _ _))
  iapply (Entails.of_eq he)
  iexact Ho

/-! ## Resources of a stage, gathered and taken apart -/

omit [FloatOps F] in
/-- What the sends along `z` need, one per distance. -/
theorem sends_join (c : Dev nD) :
    iprop((bigSep Finset.univ fun d : Fin 3 => xPts c (zc (zp d c)) (qc c) (X c))
        ∗ (bigSep Finset.univ fun d : Fin 3 => dutyTok ER (cell c (.sz d)) 0 (false, 0))
        ∗ (bigSep Finset.univ fun d : Fin 3 => dutyTok ER (cell (zp d c) (.rz d)) 0 (false, 0))
        ∗ bigSep Finset.univ fun d : Fin 3 => iprop(∃ f, oPts (zp d c) (zc c) (qc c) fullShare f))
      ⊢ bigSep Finset.univ (sendIn X c) := by
  rw [bigSep_sep', bigSep_sep', bigSep_sep']

omit [FloatOps F] in
/-- What passing on needs, one per distance; -/
theorem relays_join (c : Dev nD) :
    iprop((bigSep Finset.univ fun d : Fin 3 => cred (tallyAt (cell c (.rz d)) () N))
        ∗ (bigSep Finset.univ fun d : Fin 3 => atPos ER (cell c (.rz d)) 0 ∅ 0)
        ∗ (bigSep Finset.univ fun d : Fin 3 => bigSep Finset.univ fun r : Fin 3 => dutyTok ER (cell c (.sp r d)) 0 (false, 0))
        ∗ (bigSep Finset.univ fun d : Fin 3 => bigSep Finset.univ fun r : Fin 3 => dutyTok ER (cell (peer r c) (.rp r d)) 0 (false, 0))
        ∗ bigSep Finset.univ fun d : Fin 3 => bigSep Finset.univ fun r : Fin 3 => iprop(∃ f, oPts (peer r c) (sl d c) (qc c) fullShare f))
      ⊢ (bigSep Finset.univ (relayIn c) : sProp 𝕄) := by
  unfold relayIn passIn
  simp only [bigSep_sep']
  exact .rfl

omit [FloatOps F] in
/-- and what it leaves. -/
theorem relays_part (c : Dev nD) : (bigSep Finset.univ (relayOut c) : sProp 𝕄)
    ⊢ iprop((bigSep Finset.univ fun d : Fin 3 => atPos ER (cell c (.rz d)) 1 ∅ 0)
        ∗ bigSep Finset.univ fun d : Fin 3 => bigSep Finset.univ fun r : Fin 3 => cred (tallyAt (cell c (.sp r d)) () N)) := by
  rw [bigSep_sep']

omit [FloatOps F] in
/-- What the arrivals in the plane need, one per distance; -/
theorem gathers_join (c : Dev nD) :
    iprop((bigSep Finset.univ fun d : Fin 3 => bigSep Finset.univ fun r : Fin 3 => cred (tallyAt (cell c (.rp r d)) () N))
        ∗ bigSep Finset.univ fun d : Fin 3 => bigSep Finset.univ fun r : Fin 3 => atPos ER (cell c (.rp r d)) 0 ∅ 0)
      ⊢ (bigSep Finset.univ (gatherIn c) : sProp 𝕄) := by
  unfold gatherIn
  simp only [bigSep_sep']
  exact .rfl

omit [FloatOps F] in
/-- and what they leave. -/
theorem gathers_part (c : Dev nD) : bigSep Finset.univ (gatherOut X c)
    ⊢ iprop((bigSep Finset.univ fun d : Fin 3 => bigSep Finset.univ fun r : Fin 3 => atPos ER (cell c (.rp r d)) 1 ∅ 0)
        ∗ bigSep Finset.univ fun d : Fin 3 => bigSep Finset.univ fun r : Fin 3 => oPts c (sl d c) (qc (peer r c)) fullShare (outF X c)) := by
  unfold gatherOut
  simp only [bigSep_sep']
  exact .rfl

omit [FloatOps F] in
/-- What the waits for the sends need, one per distance; -/
theorem drains_join (c : Dev nD) :
    iprop((bigSep Finset.univ fun d : Fin 3 => cred (tallyAt (cell c (.sz d)) () N))
        ∗ (bigSep Finset.univ fun d : Fin 3 => atPos ER (cell c (.sz d)) 0 ∅ 0)
        ∗ (bigSep Finset.univ fun d : Fin 3 => bigSep Finset.univ fun r : Fin 3 => cred (tallyAt (cell c (.sp r d)) () N))
        ∗ bigSep Finset.univ fun d : Fin 3 => bigSep Finset.univ fun r : Fin 3 => atPos ER (cell c (.sp r d)) 0 ∅ 0)
      ⊢ (bigSep Finset.univ (drainIn c) : sProp 𝕄) := by
  simp only [bigSep_sep']
  iintro ⟨H1, H2, H3, H4⟩
  isplitl [H1 H2]
  · isplitl [H1] <;> iassumption
  isplitl [H3] <;> iassumption

omit [FloatOps F] in
/-- and what they leave. -/
theorem drains_part (c : Dev nD) : bigSep Finset.univ (drainOut X c)
    ⊢ iprop((bigSep Finset.univ fun d : Fin 3 => atPos ER (cell c (.sz d)) 1 ∅ 0)
        ∗ (bigSep Finset.univ fun d : Fin 3 => xPts c (zc (zp d c)) (qc c) (X c))
        ∗ (bigSep Finset.univ fun d : Fin 3 => bigSep Finset.univ fun r : Fin 3 => atPos ER (cell c (.sp r d)) 1 ∅ 0)
        ∗ bigSep Finset.univ fun d : Fin 3 => oPts c (sl d c) (qc c) fullShare (outF X c)) := by
  simp only [bigSep_sep', oPts_thirds c _ _ (outF X c)]
  iintro ⟨⟨H1, H2⟩, H3, H4⟩
  isplitl [H1]; · iexact H1
  isplitl [H2]; · iexact H2
  isplitl [H3] <;> iassumption

/-! ## The program -/

/-- What the program starts from: everything to pay, every right to pay, the argument and any result buffer. -/
def bodyIn (c : Dev nD) : sProp 𝕄 :=
  iprop(Ow c (allOwed c) ∗ creds c ∗ places c 0 ∗ toks c ∗ argPts c (X c) ∗ ∃ f, outPts c f)

/-- What it ends with: nothing to pay, every round over, the argument unchanged and the result complete. -/
def bodyOut (c : Dev nD) : sProp 𝕄 := iprop(Ow c [] ∗ places c 1 ∗ argPts c (X c) ∗ outPts c (outF X c))

/-- The program takes the one to the other. -/
theorem wp_body (c : Dev nD) : iprop(recs X K ∗ bodyIn X c) ⊢ WP c (bodyP c) fun _ => bodyOut X c := by
  unfold bodyIn bodyOut creds places toks bodyP
  rw [bigSep_ch, bigSep_ch]
  iintro ⟨#HR, HO, ⟨Cb, Crz, Crp⟩, ⟨Pb, Psz, Prz, Psp, Prp⟩, ⟨Tz, Tp, Tsz, Trz, Tsp, Trp⟩, Hx, ⟨%f, Ho⟩⟩
  ihave Hx' := (Entails.of_eq (arg_parts c (X c))) $$ Hx
  icases Hx' with ⟨Xs, Xr⟩
  ihave Ho' := (Entails.of_eq (out_parts c f)) $$ Ho
  icases Ho' with ⟨Own, Hf⟩
  ihave Hg := (foreign_any c f) $$ Hf
  icases Hg with ⟨Gz, Gp⟩
  ihave Gz' := (Entails.of_eq (give_z X c)) $$ Gz
  ihave Gp' := (Entails.of_eq (give_p X c)) $$ Gp
  iapply (wp_then (wp_bumps X K c (fun d => zp d c) (fun d => (false, opp d))
    ([0, 1, 2].map (fun r => (peer r c, Ch.bar)) ++ sendOwed c [0, 1, 2]))) $$ [HO Tz Gz']
  · isplitr; · iexact HR
    isplitl [HO]; · iexact HO
    iapply (Entails.of_eq (bigSep_sep' _ _ _).symm)
    isplitl [Tz] <;> iassumption
  iintro HO
  iapply (wp_then (wp_bumps X K c (fun r => peer r c) (fun r => (true, r)) (sendOwed c [0, 1, 2]))) $$ [HO Tp Gp']
  · isplitr; · iexact HR
    isplitl [HO]; · iexact HO
    iapply (Entails.of_eq (bigSep_sep' _ _ _).symm)
    isplitl [Tp] <;> iassumption
  iintro HO
  iapply (wp_barrier X K c) $$ [HO Cb Pb]
  · isplitr; · iexact HR
    isplitl [HO]; · iexact HO
    isplitl [Cb] <;> iassumption
  iintro ⟨HO, Pb, Hn⟩
  ihave Hn' := (Entails.of_eq (bar_parts X c)) $$ Hn
  icases Hn' with ⟨Nz, Np⟩
  iapply (wp_then (wp_sends X K c)) $$ [HO Xs Tsz Trz Nz]
  · isplitr; · iexact HR
    isplitl [HO]; · iexact HO
    iapply (sends_join X c)
    isplitl [Xs]; · iexact Xs
    isplitl [Tsz]; · iexact Tsz
    isplitl [Trz] <;> iassumption
  iintro ⟨HO, Csz⟩
  iapply (wp_then (wp_keepOwn X c)) $$ [Xr Own]
  · isplitl [Xr]; · iexact Xr
    iexists f; iexact Own
  iintro ⟨Xr, Own⟩
  iapply (wp_then (wp_stage2 X K c)) $$ [HO Crz Prz Tsp Trp Np Crp Prp]
  · isplitr; · iexact HR
    isplitl [HO]; · iexact HO
    isplitl [Crz Prz Tsp Trp Np]
    · iapply (relays_join c)
      isplitl [Crz]; · iexact Crz
      isplitl [Prz]; · iexact Prz
      isplitl [Tsp]; · iexact Tsp
      isplitl [Trp] <;> iassumption
    iapply (gathers_join c)
    isplitl [Crp] <;> iassumption
  iintro ⟨HO, HA, HG⟩
  ihave HA' := (relays_part c) $$ HA
  icases HA' with ⟨Prz, Csp⟩
  ihave HG' := (gathers_part X c) $$ HG
  icases HG' with ⟨Prp, Op⟩
  ihave H := (wp_drains X K c) $$ [HO Csz Psz Csp Psp]
  · isplitr; · iexact HR
    isplitl [HO]; · iexact HO
    iapply (drains_join c)
    isplitl [Csz]; · iexact Csz
    isplitl [Psz]; · iexact Psz
    isplitl [Csp] <;> iassumption
  iapply (wp_wand frame (wpE (defs₀ (F := F)) 𝒱₀ (c : Thread nD τ) none) Set.univ (p := seqL [0, 1, 2] drain)) $$ H
  iintro %a ⟨HO, HD⟩
  ihave HD' := (drains_part X c) $$ HD
  icases HD' with ⟨Psz, Xs, Psp, Oz⟩
  isplitl [HO]; · iexact HO
  isplitl [Pb Psz Prz Psp Prp]
  · isplitl [Pb]; · iexact Pb
    isplitl [Psz]; · iexact Psz
    isplitl [Prz]; · iexact Prz
    isplitl [Psp] <;> iassumption
  isplitl [Xs Xr]
  · iapply (Entails.of_eq (arg_parts c (X c)).symm)
    isplitl [Xs] <;> iassumption
  iapply (Entails.of_eq (out_parts c (outF X c)).symm)
  isplitl [Own]; · iexact Own
  isplitl [Oz] <;> iassumption

end Cert.Exchange

end
-- ==== Proof.Data.lean ====
/-
# The kernel as the staging pipeline runs it

The pipeline stages a device's argument, runs the program, and writes the staged result back. This module gives the
pipeline the contents before and after, and proves that the program meets them.
-/
module

public import proofs.«01_k».proof.Proof.Body
public import proofs.«01_k».proof.Proof.Gen.Kernel.Launch
public import proofs.«01_k».proof.Proof.Gen.Kernel.Points
public import Idealize.ShloMosaic.Lib.Pipeline.Launch
public import Idealize.ShloMosaic.Lib.Pipeline.Kit

@[expose] public section

set_option maxRecDepth 8000

noncomputable section

namespace Cert.Exchange

open Cert.Kernel Cert.Kernel.Gen
open Idealize.ShloMosaic Idealize.ShloMosaic.TcCoe Idealize.SL Idealize.SL.RA Idealize.SL.BI Idealize.SL.BI.BIBase
open Idealize.SL.BI.Laws Idealize.SL.ProofMode Idealize.SL.Sem Idealize.ShloMosaic.Rounds
open Idealize.ShloMosaic.Pipeline (Dat Cfg Window BodyObligation cellOf)
open scoped Idealize.SL.BI

variable {F : FTy → Type}

local notation "𝕄" => MT nD τ sig Unit (Elt F) ℕ UU ℕ

/-- All semaphores of a device at zero. -/
def zeros (c : Dev nD) : sProp 𝕄 := bigSep Finset.univ fun h : Ch => semVal (cell c h) 0

variable (X : Dev nD → S256x1024.Idx → Elt F .f32) (K : Dev nD × Ch → ℕ)

/-- A semaphore whose round is over stands at zero. -/
theorem close (c : Dev nD) : iprop(recs X K ∗ places c 1) ⊢ iprop(|={Set.univ}=> zeros c) := by
  unfold places zeros
  have h : iprop(recs X K ∗ bigSep (Finset.univ : Finset Ch) fun h => atPos ER (cell c h) 1 ∅ 0)
      ⊢ bigSep (Finset.univ : Finset Ch) fun h => iprop(|={Set.univ}=> semVal (cell c h) 0) :=
    BI.bigSep_with_persistent fun h _ => (BIClass.sep_mono (recs_inv X K c h) .rfl).trans
      (Rounds.cell_close ER (Rd X) (Set.mem_univ _) (fun h => h) (duties_later X (cell c h)))
  exact h.trans (bigSep_fupd _ _)

variable [FloatOps F]
variable (m : (ℓ : Loc nD τ sig) → Buf (Elt F) ℓ) (ρ : Dev nD → PrngReg)

/-- The memory at launch: any contents, every counter zero. -/
def s₀ : MemSt nD τ sig (Elt F) := ⟨m, fun _ => 0, ρ⟩

/-- The argument as the pipeline stages it. -/
def xstg (c : Dev nD) : S256x1024.Idx → Elt F .f32 :=
  (win0_0.blk (0 : Fin 1)).view.read (Elt F) ((s₀ m ρ).mem ((c : Thread nD τ).loc main_arg0))

/-- The pipeline makes one step; -/
theorem cfg0_N : cfg0.N = 1 := by decide
/-- this one; -/
def t₀ : Fin cfg0.N := ⟨0, by rw [cfg0_N]; decide⟩
/-- there is no other. -/
theorem fin_N (t : Fin cfg0.N) : t = t₀ := by
  obtain ⟨t, ht⟩ := t; have := cfg0_N; exact Fin.ext (by simp only [t₀]; omega)

/-- What device `c` starts the program from. -/
def start (c : Dev nD) : sProp 𝕄 := iprop((∃ K, recs (xstg m ρ) K) ∗ creds c ∗ places c 0 ∗ toks c)

/-- What the pipeline stages on device `c`, before and after its one step. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outF (xstg m ρ) c
  Φ t := match t with
    | ⟨0, _⟩ => start m ρ c
    | ⟨_ + 1, _⟩ => zeros c
  q _ := fullShare
  owed t := match t with
    | ⟨0, _⟩ => owesOf (allOwed c)
    | ⟨_ + 1, _⟩ => 0

omit [FloatOps F] in
/-- The pipeline has two windows. -/
theorem bigSep_W (Φ : Fin cfg0.W → sProp 𝕄) : bigSep Finset.univ Φ = iprop(Φ (0 : Fin 2) ∗ Φ (1 : Fin 2)) := bigSep_W0 Φ

/-- The argument is fetched. -/
theorem fetch_0 (t : Fin cfg0.N) : (cfg0.win (0 : Fin 2)).fetch t = true := fetch0_0 t

/-- A staged buffer held whole at stated contents. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

omit [FloatOps F] in
/-- Owning a whole buffer is holding it at its contents. -/
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄) = stg c b Y := by
  unfold owns; simp only [Memref.view_whole, View.read_whole, View.set_whole]

/-- What the pipeline hands to the program; -/
def stageIn (c : Dev nD) : sProp 𝕄 :=
  iprop(start m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- and what it takes back. -/
def stageOut (c : Dev nD) : sProp 𝕄 :=
  iprop(zeros c ∗ (dats m ρ 0 c).owesAt () t₀.succ ∗ stg c cc0_stg0_0 (xstg m ρ c) ∗ stg c cc0_stg1_0 (outF (xstg m ρ) c))

/-- The program meets the pipeline's obligation. -/
theorem stage_body (c : Dev nD) : stageIn m ρ c
    ⊢ WP c (cc0_body (F := F) xM (Memref.isWhole_whole _) oM (Memref.isWhole_whole _) cc0_scratch0 cc0_scratch1 cc0_scratch2 cc0_scratch3)
        fun _ => stageOut m ρ c := by
  rw [body_eq]
  show _ ⊢ wp frame (wpE (defs₀ (F := F)) 𝒱₀ (c : Thread nD τ) none) Set.univ _ _
  rw [wp_deviceId]
  unfold stageIn start
  iintro ⟨⟨⟨%K, #HR⟩, HC, HP, HT⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, -, HO⟩
  ihave H := (wp_body (xstg m ρ) K c) $$ [HO HC HP HT Hx Hout]
  · isplitr; · iexact HR
    unfold bodyIn Ow
    isplitl [HO]; · iexists W; iexact HO
    isplitl [HC]; · iexact HC
    isplitl [HP]; · iexact HP
    isplitl [HT]; · iexact HT
    isplitl [Hx]; · iexact Hx
    iexists g1; iexact Hout
  iapply (wp_fupd frame (wpE (defs₀ (F := F)) 𝒱₀ (c : Thread nD τ) none) Set.univ (bodyP c) fun _ => stageOut m ρ c)
  iapply (wp_wand frame (wpE (defs₀ (F := F)) 𝒱₀ (c : Thread nD τ) none) Set.univ (p := bodyP c)) $$ H
  iintro %a HB
  unfold bodyOut Ow
  icases HB with ⟨⟨%W', HO⟩, HP, Hx, Hout⟩
  imod (close (xstg m ρ) K c) $$ [HP] with HZ
  · isplitr; · iexact HR
    iexact HP
  imodintro
  unfold stageOut Dat.owesAt Pipeline.owesWithin
  isplitl [HZ]; · iexact HZ
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-- The pipeline's obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact stage_body m ρ c

end Cert.Exchange

end
-- ==== Proof.Start.lean ====
/-
# What the devices start from

At launch every semaphore of the exchange stands at zero and the right to each of its duties is created once. The rights
are created with the semaphore and then dealt to the device that will pay. This module does that dealing, and shows that
the credit every device gets is what the others owe it.
-/
module

public import proofs.«01_k».proof.Proof.Data
public import proofs.«01_k».proof.Proof.Loops

@[expose] public section

set_option maxRecDepth 8000

noncomputable section

namespace Cert.Exchange

open Cert.Kernel Cert.Kernel.Gen
open Idealize.ShloMosaic Idealize.ShloMosaic.TcCoe Idealize.SL Idealize.SL.RA Idealize.SL.BI Idealize.SL.BI.BIBase
open Idealize.SL.BI.Laws Idealize.SL.ProofMode Idealize.SL.Sem Idealize.ShloMosaic.Rounds
open scoped Idealize.SL.BI

variable {F : FTy → Type}

local notation "𝕄" => MT nD τ sig Unit (Elt F) ℕ UU ℕ

/-! ## The semaphores -/

/-- The semaphores the kernel declares itself: all but the barrier. -/
abbrev Own : Type := Fin 3 ⊕ Fin 3 ⊕ (Fin 3 × Fin 3) ⊕ (Fin 3 × Fin 3)

/-- Where they lie. -/
def osem (k : Own) : SemLoc sig := semOf (chE (.inr k))

/-- They are the kernel's, all different, and none is a staging semaphore. -/
theorem ownSemFacts : Pipeline.OwnSemFacts cfg0.spec osem where
  isScoped := by decide
  inj := fun _ _ h => Sum.inr_injective (chE.injective (semOf_inj h))
  disj := by decide

/-- The barrier is the one semaphore that outlives the kernel. -/
theorem unscopedSems0_eq (c : Dev nD) : (unscopedSems0 c : sProp 𝕄) = semVal (cell c .bar) 0 := by
  unfold unscopedSems0; rw [bigSep_eq_bigSepL_of_eq [SemLoc.reg barS] (by decide) (by decide)]; rfl

/-- The semaphores of the exchange are the barrier and the kernel's own. -/
theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  unfold zeros
  rw [bigSep_univ_equiv chE fun h => semVal (cell c h) 0, BI.bigSep_univ_sum, Finset.univ_unique, bigSep_singleton, unscopedSems0_eq]
  rfl

/-- Different devices or semaphores are different cells. -/
theorem cell_inj : Function.Injective fun p : Dev nD × Ch => cell p.1 p.2 := by
  rintro ⟨c, h⟩ ⟨c', h'⟩ e
  have h1 : c = c' := congrArg (fun g : GSem nD τ sig => g.1.1) e
  have h2 : h = h' := semOf_inj (congrArg Prod.snd e)
  rw [h1, h2]

/-- Every semaphore of the exchange on every device. -/
def cells : Finset (GSem nD τ sig) := Finset.univ.map ⟨_, cell_inj⟩

/-- Different duties have different rights. -/
theorem right_inj : Function.Injective fun p : (Dev nD × Ch) × Duty => ((cell p.1.1 p.1.2, 0, p.2) : GSem nD τ sig × ℕ × Duty) := by
  rintro ⟨p, d⟩ ⟨p', d'⟩ e
  have h1 : p = p' := cell_inj (congrArg Prod.fst e)
  have h2 : d = d' := congrArg (fun x : GSem nD τ sig × ℕ × Duty => x.2.2) e
  rw [h1, h2]

/-- The right to every duty of each of them. -/
def rights : Finset (GSem nD τ sig × ℕ × Duty) := Finset.univ.map ⟨_, right_inj⟩

/-- The ghost state at launch: the staging pipeline's and the exchange's. -/
def u₀ : UU := (initOf (Pipeline.cells cfgs cellOf_inj) (Pipeline.launchToks cfgs cellOf_inj), initOf cells rights)

/-! ## Dealing the rights -/

/-- The rights to the duties of device `c`'s own semaphores, as created. -/
def minted (c : Dev nD) : sProp 𝕄 := bigSep Finset.univ fun h : Ch => bigSep Finset.univ fun d : Duty => dutyTok ER (cell c h) 0 d

/-- The inverse of `opp` is itself. -/
def oppE : Fin 3 ≃ Fin 3 := ⟨opp, opp, opp_opp, opp_opp⟩

/-- The rights of device `c`'s own semaphores that some device will use. -/
def mintedToks (c : Dev nD) : sProp 𝕄 :=
  iprop((bigSep Finset.univ fun d : Fin 3 => dutyTok ER (cell c .bar) 0 (false, opp d))
    ∗ (bigSep Finset.univ fun r : Fin 3 => dutyTok ER (cell c .bar) 0 (true, r))
    ∗ (bigSep Finset.univ fun d : Fin 3 => dutyTok ER (cell c (.sz d)) 0 (false, 0))
    ∗ (bigSep Finset.univ fun d : Fin 3 => dutyTok ER (cell c (.rz d)) 0 (false, 0))
    ∗ (bigSep Finset.univ fun d : Fin 3 => bigSep Finset.univ fun r : Fin 3 => dutyTok ER (cell c (.sp r d)) 0 (false, 0))
    ∗ (bigSep Finset.univ fun d : Fin 3 => bigSep Finset.univ fun r : Fin 3 => dutyTok ER (cell c (.rp r d)) 0 (false, 0)))

/-- The rights of a barrier: three along `z`, counted from the payer, and three in the plane. -/
theorem minted_bar (c : Dev nD) : (bigSep Finset.univ fun d : Duty => (dutyTok ER (cell c .bar) 0 d : sProp 𝕄))
    = iprop((bigSep Finset.univ fun d : Fin 3 => dutyTok ER (cell c .bar) 0 (false, opp d))
      ∗ (bigSep Finset.univ fun r : Fin 3 => dutyTok ER (cell c .bar) 0 (true, r))) := by
  rw [bigSep_univ_prod, bigSep_univ_eq_bigSepL [false, true] (by decide) (by decide)]
  show iprop((bigSep Finset.univ fun d : Fin 3 => (dutyTok ER (cell c .bar) 0 (false, d) : sProp 𝕄)) ∗ _) = _
  rw [bigSep_univ_equiv oppE fun d => (dutyTok ER (cell c .bar) 0 (false, d) : sProp 𝕄)]
  rfl

/-- Of a semaphore with one duty, the right to that duty. -/
theorem minted_one (c : Dev nD) (h : Ch) : (bigSep Finset.univ fun d : Duty => (dutyTok ER (cell c h) 0 d : sProp 𝕄)) ⊢ dutyTok ER (cell c h) 0 (false, 0) :=
  bigSep_elim (Finset.mem_univ ((false, 0) : Duty))

/-- All rights created hold those that are used. -/
theorem minted_toks (c : Dev nD) : (minted c : sProp 𝕄) ⊢ mintedToks c := by
  unfold minted mintedToks
  rw [bigSep_ch, minted_bar]
  refine (BIClass.sep_mono .rfl (BIClass.sep_mono (bigSep_mono fun d _ => minted_one c (.sz d)) (BIClass.sep_mono (bigSep_mono fun d _ => minted_one c (.rz d))
    (BIClass.sep_mono (bigSep_mono fun d _ => bigSep_mono fun r _ => minted_one c (.sp r d)) (bigSep_mono fun d _ => bigSep_mono fun r _ => minted_one c (.rp r d)))))).trans ?_
  iintro ⟨⟨H1, H2⟩, H⟩
  isplitl [H1]; · iexact H1
  isplitl [H2]; · iexact H2
  iexact H

/-- A family over the devices may be dealt out anew along a permutation of the devices for each index. -/
theorem deal {ι : Type} [Fintype ι] (e : ι → Dev nD ≃ Dev nD) (P : ι → Dev nD → sProp 𝕄) :
    (bigSep Finset.univ fun c : Dev nD => bigSep Finset.univ fun i => P i c) = bigSep Finset.univ fun c : Dev nD => bigSep Finset.univ fun i => P i (e i c) := by
  rw [BI.bigSep_univ_comm fun c i => P i c, BI.bigSep_univ_comm fun c i => P i (e i c)]
  exact bigSep_congr fun i _ => bigSep_univ_equiv (e i) (P i)

/-- The same for families with two indices, along a permutation for the second. -/
theorem deal₂ (e : Fin 3 → Dev nD ≃ Dev nD) (P : Fin 3 → Fin 3 → Dev nD → sProp 𝕄) :
    (bigSep Finset.univ fun c : Dev nD => bigSep Finset.univ fun d => bigSep Finset.univ fun r => P d r c)
      = bigSep Finset.univ fun c : Dev nD => bigSep Finset.univ fun d => bigSep Finset.univ fun r => P d r (e r c) := by
  rw [BI.bigSep_univ_comm fun c d => bigSep Finset.univ fun r => P d r c, BI.bigSep_univ_comm fun c d => bigSep Finset.univ fun r => P d r (e r c)]
  exact bigSep_congr fun d _ => deal e (P d)

/-- All rights created are all rights used. -/
theorem toks_dealt : (bigSep Finset.univ fun c : Dev nD => (minted c : sProp 𝕄)) ⊢ bigSep Finset.univ fun c : Dev nD => toks c := by
  have h : (bigSep Finset.univ fun c : Dev nD => (mintedToks c : sProp 𝕄)) = bigSep Finset.univ fun c : Dev nD => toks c := by
    unfold mintedToks toks
    simp only [bigSep_sep']
    rw [deal zpE fun d c => (dutyTok ER (cell c .bar) 0 (false, opp d) : sProp 𝕄), deal peerE fun r c => (dutyTok ER (cell c .bar) 0 (true, r) : sProp 𝕄),
      deal zpE fun d c => (dutyTok ER (cell c (.rz d)) 0 (false, 0) : sProp 𝕄), deal₂ peerE fun d r c => (dutyTok ER (cell c (.rp r d)) 0 (false, 0) : sProp 𝕄)]
    rfl
  rw [← h]
  exact bigSep_mono fun c _ => minted_toks c

/-! ## The credit -/

/-- What device `c` owes at launch. -/
def O₀ (c : Dev nD) : CellTallies nD τ sig Unit := owesOf (allOwed c)

/-- One payment to semaphore `h` of device `c`. -/
abbrev due (h : Ch) (c : Dev nD) : CellTallies nD τ sig Unit := tallyAt (cell c h) () (amt h)

/-- What a list owes is the sum of its payments. -/
theorem owesOf_sum (l : List (Dev nD × Ch)) : owesOf l = (l.map fun p => due p.2 p.1).sum := by
  induction l with
  | nil => rfl
  | cons p l ih => rw [List.map_cons, List.sum_cons, ← ih, add_comm]; rfl

/-- What a device owes, sorted by semaphore. -/
theorem O₀_eq (c : Dev nD) : O₀ c = ((∑ d, due .bar (zp d c)) + ∑ r, due .bar (peer r c)) + (∑ d, due (.rz d) (zp d c)) + ∑ d, ∑ r, due (.rp r d) (peer r c) := by
  have hp : (allOwed c).Perm ([(zp 0 c, .bar), (zp 1 c, .bar), (zp 2 c, .bar), (peer 0 c, .bar), (peer 1 c, .bar), (peer 2 c, .bar)]
      ++ ([0, 1, 2].map (fun d => (zp d c, Ch.rz d)) ++ [0, 1, 2].flatMap (fwdOwed c))) :=
    ((List.Perm.refl _).append ((List.Perm.refl _).append ((ord_perm c).flatMap_right _)))
  unfold O₀
  rw [owesOf_sum, (hp.map _).sum_eq]
  simp only [List.map_append, List.map_cons, List.map_nil, List.sum_append, List.sum_cons, List.sum_nil, List.flatMap_cons, List.flatMap_nil, fwdOwed,
    Fin.sum_univ_three, add_zero, add_assoc]

/-- What device `c` is owed. -/
def T₀ (c : Dev nD) : CellTallies nD τ sig Unit := ((∑ _d : Fin 3, due .bar c) + ∑ _r : Fin 3, due .bar c) + (∑ d, due (.rz d) c) + ∑ d, ∑ r, due (.rp r d) c

/-- Payments to neighbours, over all devices, are payments to every device. -/
theorem sum_dealt (e : Fin 3 → Dev nD ≃ Dev nD) (h : Fin 3 → Ch) : (∑ c : Dev nD, ∑ i, due (h i) (e i c)) = ∑ c : Dev nD, ∑ i, due (h i) c := by
  rw [Finset.sum_comm, Finset.sum_comm (f := fun c i => due (h i) c)]
  exact Finset.sum_congr rfl fun i _ => Equiv.sum_comp (e i) (due (h i))

/-- Over all devices, what is owed is what is due. -/
theorem sum_O₀ : (∑ c, O₀ c) = ∑ c, T₀ c := by
  have h1 := sum_dealt zpE fun _ => .bar
  have h2 := sum_dealt peerE fun _ => .bar
  have h3 := sum_dealt zpE .rz
  have h4 : (∑ c : Dev nD, ∑ d : Fin 3, ∑ r : Fin 3, due (.rp r d) (peer r c)) = ∑ c : Dev nD, ∑ d : Fin 3, ∑ r : Fin 3, due (.rp r d) c := by
    rw [Finset.sum_comm, Finset.sum_comm (f := fun (c : Dev nD) (d : Fin 3) => ∑ r : Fin 3, due (.rp r d) c)]
    exact Finset.sum_congr rfl fun d _ => sum_dealt peerE fun r => .rp r d
  unfold T₀
  simp only [O₀_eq]
  rw [Finset.sum_add_distrib, Finset.sum_add_distrib, Finset.sum_add_distrib, Finset.sum_add_distrib, Finset.sum_add_distrib, Finset.sum_add_distrib]
  exact congrArg₂ (· + ·) (congrArg₂ (· + ·) (congrArg₂ (· + ·) h1 h2) h3) h4

/-- What is due to device `c` is due at its own semaphores. -/
theorem T₀_own (c : Dev nD) (g : GSem nD τ sig) (hg : T₀ c g ≠ 0) : g.1 = (c.tc : Thread nD τ) := by
  by_contra h
  have hz (k : Ch) : due k c g = 0 := tallyAt_ne_cell (fun e => h (congrArg Prod.fst e)) _ _
  refine hg ?_
  unfold T₀
  simp only [Pi.add_apply, Finset.sum_apply, hz, Finset.sum_const_zero, add_zero]

/-- The credit a device starts with. -/
theorem creds_intro (c : Dev nD) : (Pipeline.launchCred O₀ c : sProp 𝕄) ⊢ creds c := by
  have hb : ((∑ _d : Fin 3, due .bar c) + ∑ _r : Fin 3, due .bar c) = tallyAt (cell c .bar) () 6 := by
    simp only [Fin.sum_univ_three, due, tallyAt_add]; rfl
  rw [Pipeline.launchCred_of_sum O₀ T₀ sum_O₀ T₀_own]
  unfold T₀ creds
  rw [hb]
  refine (cred_add _ _).1.trans ?_
  refine (BIClass.sep_mono (cred_add _ _).1 .rfl).trans ?_
  rw [Pipeline.cred_finsetSum, Pipeline.cred_finsetSum]
  simp only [Pipeline.cred_finsetSum]
  iintro ⟨⟨H1, H2⟩, H3⟩
  isplitl [H1]; · iexact H1
  isplitl [H2]; · iexact H2
  iexact H3

end Cert.Exchange

end
-- ==== Proof.Run.lean ====
/-
# The run of the kernel

From any memory with every counter at zero, each weakly fair run of the sixteen devices ends with every argument
unchanged, every counter at zero, and every result holding the sixteen quarter blocks sent to it.
-/
module

public import proofs.«01_k».proof.Proof.Start
public import Idealize.ShloMosaic.Lib.Pipeline.Value
public import Idealize.ShloMosaic.Lib.Pipeline.CollectiveSegs

@[expose] public section

set_option maxRecDepth 8000

noncomputable section

namespace Cert.Exchange

open Cert.Kernel Cert.Kernel.Gen
open Idealize.ShloMosaic Idealize.ShloMosaic.TcCoe Idealize.SL Idealize.SL.RA Idealize.SL.BI Idealize.SL.BI.BIBase
open Idealize.SL.BI.Laws Idealize.SL.ProofMode Idealize.SL.Sem Idealize.ShloMosaic.Rounds
open Idealize.ShloMosaic.Pipeline (Dat Cfg Window BodyObligation cellOf)
open scoped Idealize.SL.BI

variable {F : FTy → Type} [FloatOps F]

local notation "𝕄" => MT nD τ sig Unit (Elt F) ℕ UU ℕ

variable (m : (ℓ : Loc nD τ sig) → Buf (Elt F) ℓ) (ρ : Dev nD → PrngReg)

/-! ## Funding the exchange -/

/-- What the launch gives device `c`: its semaphores' states, positions and rights. -/
def G (c : Dev nD) : sProp 𝕄 :=
  iprop((bigSep Finset.univ fun h : Ch => roundState ER (Rd (xstg m ρ)) (cell c h) 0)
    ∗ (bigSep Finset.univ fun h : Ch => iprop(reached ER (cell c h) 0)) ∗ places c 0 ∗ minted c)

/-- The shared records, before the levels are known. -/
def shared (K : Dev nD × Ch → ℕ) : sProp 𝕄 :=
  iprop((bigSep Finset.univ fun p : Dev nD × Ch => cellInv ER (Rd (xstg m ρ)) (K p) (cell p.1 p.2))
    ∗ bigSep Finset.univ fun p : Dev nD × Ch => reached ER (cell p.1 p.2) 0)

instance shared_persistent (K : Dev nD × Ch → ℕ) : BI.Persistent (shared m ρ K) := by unfold shared; infer_instance

/-- What device `c` holds once the shared records stand. -/
def G' (c : Dev nD) : sProp 𝕄 := iprop((∃ K, shared m ρ K) ∗ places c 0 ∗ toks c)

/-- The ghost state at launch pays for all of it. -/
theorem fund_exchange : BI.own (ER (initOf cells rights)) ⊢ (|==> bigSep Finset.univ (G m ρ) : sProp 𝕄) := by
  have hX (Φ : GSem nD τ sig → sProp 𝕄) : bigSep cells Φ = bigSep Finset.univ fun c : Dev nD => bigSep Finset.univ fun h : Ch => Φ (cell c h) := by
    unfold cells; rw [bigSep_map, bigSep_univ_prod]; rfl
  have hT : bigSep rights (fun x => (dutyTok ER x.1 x.2.1 x.2.2 : sProp 𝕄)) = bigSep Finset.univ fun c : Dev nD => minted c := by
    unfold rights; rw [bigSep_map, bigSep_univ_prod, bigSep_univ_prod]; rfl
  iintro HX
  imod (Rounds.fund ER (Rd (xstg m ρ)) cells rights) $$ HX with ⟨Hst, Hr, Hat, Htok⟩
  imodintro
  ihave Hst' := (Entails.of_eq (hX fun g => roundState ER (Rd (xstg m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places; simp only [bigSep_sep']
  isplitl [Hst']; · iexact Hst'
  isplitl [Hr']; · iexact Hr'
  isplitl [Hat']; · iexact Hat'
  iexact Htok'

/-- What device `c` holds once its own semaphores are shared. -/
def opened (c : Dev nD) : sProp 𝕄 :=
  iprop((bigSep Finset.univ fun h : Ch => iprop(∃ κ : ℕ, cellInv ER (Rd (xstg m ρ)) κ (cell c h)))
    ∗ (bigSep Finset.univ fun h : Ch => iprop(reached ER (cell c h) 0)) ∗ places c 0 ∗ minted c)

/-- The semaphores of a device, at zero, are shared. -/
theorem open_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> opened m ρ c := by
  unfold G opened
  iintro ⟨Hos, Hus, Hst, Hrest⟩
  ihave Hv := (Entails.of_eq (zeros_eq (F := F) c).symm) $$ [Hos Hus]
  · isplitl [Hus] <;> iassumption
  unfold zeros
  imod (show iprop((bigSep (Finset.univ : Finset Ch) fun h => semVal (cell c h) 0)
        ∗ bigSep (Finset.univ : Finset Ch) fun h => roundState ER (Rd (xstg m ρ)) (cell c h) 0)
      ⊢ (|={Set.univ}=> bigSep (Finset.univ : Finset Ch) fun h => iprop(∃ κ : ℕ, cellInv ER (Rd (xstg m ρ)) κ (cell c h)) : sProp 𝕄) from by
        rw [← bigSep_sep']
        exact (bigSep_mono fun h _ => (Rounds.body_intro ER (Rd (xstg m ρ)) (cell c h)).trans inv_alloc).trans (bigSep_fupd _ _)) $$ [Hv Hst] with Hinv
  · isplitl [Hv] <;> iassumption
  imodintro
  isplitl [Hinv]; · iexact Hinv
  iexact Hrest

/-- Once all are shared every device knows of all, and has its rights. -/
theorem regroup : (bigSep Finset.univ fun c : Dev nD => opened m ρ c) ⊢ bigSep Finset.univ (G' m ρ) := by
  unfold opened
  rw [bigSep_sep', bigSep_sep', bigSep_sep', ← bigSep_univ_prod (fun p : Dev nD × Ch => iprop(∃ κ : ℕ, cellInv ER (Rd (xstg m ρ)) κ (cell p.1 p.2))),
    ← bigSep_univ_prod (fun p : Dev nD × Ch => (reached ER (cell p.1 p.2) 0 : sProp 𝕄))]
  iintro ⟨HI, #HR, Hat, Htok⟩
  ihave HK := (BI.bigSep_exists_pi Finset.univ (fun (p : Dev nD × Ch) (κ : ℕ) => (cellInv ER (Rd (xstg m ρ)) κ (cell p.1 p.2) : sProp 𝕄))) $$ HI
  icases HK with ⟨%K, #HI⟩
  ihave Htk := (toks_dealt (F := F)) $$ Htok
  have hG (c : Dev nD) : iprop(shared m ρ K ∗ places c 0 ∗ toks c) ⊢ G' m ρ c := by
    unfold G'
    iintro ⟨H, HT⟩
    isplitl [H]; · iexists K; iexact H
    iexact HT
  iapply (BI.bigSep_with_persistent (R := shared m ρ K) fun c _ => hG c)
  isplitr
  · unfold shared; isplitl; · iexact HI
    iexact HR
  · iapply (Entails.of_eq (bigSep_sep' Finset.univ (fun c : Dev nD => places c 0) (fun c => (toks c : sProp 𝕄))).symm)
    isplitl [Hat]; · iexact Hat
    iexact Htk

/-- All devices' semaphores are shared at once. -/
theorem share_all : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => open_cells m ρ c).trans (bigSep_fupd _ _)).trans (BI.fupd_mono (regroup m ρ))

/-! ## Entering and leaving the program -/

/-- With the levels and its credit a device can start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' start shared recs
  iintro ⟨-, Hlev, Hcr, -, ⟨%K, HI, HR⟩, HP, HT⟩
  ihave Hc := (creds_intro (F := F) c) $$ Hcr
  imodintro
  isplitl
  · isplitl [HI HR Hlev]
    · iexists K
      isplitl [HI]; · iexact HI
      isplitl [HR]; · iexact HR
      iexact Hlev
    isplitl [Hc]; · iexact Hc
    isplitl [HP]; · iexact HP
    iexact HT
  · iempintro

/-- The program starts from that. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

/-- At the end all semaphores are back at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = zeros c from rfl, zeros_eq, scopedRest0_eq]
  iintro ⟨H1, H2⟩
  isplitl [H1]; · iexact H1
  isplitl [H2]; · iexact H2
  iempintro

/-- The arrays are held whole. -/
theorem share_eq (c : Dev nD) (w : Fin cfg0.W) : (dats m ρ 0 c).share w = fullShare := by unfold Dat.share; split <;> rfl

/-- Every payment owed is at a stage above the staging semaphores'. -/
theorem lvl_owed (c : Dev nD) : ∀ p ∈ allOwed c, 0 < lvl p.2 := by revert c; decide

/-- A staging semaphore is none of the exchange's. -/
theorem lv_stage (c : Dev nD) (sm : SemLoc sig) (h : ∀ k, semOf k ≠ sm) : lv ((c : Thread nD τ), sm) () ≤ 0 := by
  unfold lv chOf
  rw [show Function.partialInv semOf sm = none from dif_neg fun ⟨k, hk⟩ => h k hk]
  exact le_rfl

/-- The pipeline's own waits are allowed, whatever a device owes. -/
theorem waits (c : Dev nD) : (levAts L lv : sProp 𝕄) ⊢ Pipeline.cellsWaits cfgs (dats m ρ) () 0 c :=
  Pipeline.cellsWaits_intro cfgs (dats m ρ) () 0 c fun w s t => by
    have hs : lv ((c : Thread nD τ), .dma ((cfg0.win w).sem s)) () ≤ 0 := lv_stage c _ (by revert w s; decide +kernel)
    rcases t with ⟨_ | _, ht⟩
    · exact mayWait c _ 0 hs (allOwed c) (lvl_owed c)
    · exact mayWait c _ 0 hs [] (fun p hp => nomatch hp)

/-! ## The run -/

/-- The array of window `w` on device `c` after the run. -/
def finalA (c : Dev nD) (w : Fin cfg0.W) : Buf (Elt F) ((cfg0.win w).arr.view.loc (c : Thread nD τ)) := (dats m ρ 0 c).arrAt w cfg0.N

/-- All arrays of all devices hold what the pipeline computes. -/
def QC : PUnit × MemSt nD τ sig (Elt F) → Prop := fun r =>
  ∀ c : Dev nD, ∀ w : Fin cfg0.W, r.2.mem ((cfg0.win w).arr.view.loc (c : Thread nD τ)) = finalA m ρ c w

/-- For any float values, from any memory with zero counters, every weakly fair run of the sixteen devices ends, with
    every device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := share_all m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run is the argument before. -/
theorem finalA_x (c : Dev nD) : finalA m ρ c (0 : Fin 2) = (s₀ m ρ).mem (win0_0.arr.view.loc (c : Thread nD τ)) :=
  (dats (F := F) m ρ 0 c).arrAt_in (0 : Fin 2) rfl _

/-- The staged argument is the argument. -/
theorem xstg_eq : xstg m ρ = fun c : Dev nD => m ((c : Thread nD τ).loc main_arg0) := by
  have hz : (fun a => (win0_0.index (0 : Fin 1)) a * main_arg0.ty.shape.size a) = fun _ => 0 := funext fun a => by fin_cases a <;> decide
  exact funext fun c => Memref.read_access_unit_zero (Elt F) main_arg0 hz (fun a => by fin_cases a <;> decide) _

/-- The result after the run: the pipeline's one window onto it is all of it, and is written back once. -/
theorem result_eq (c : Dev nD) : finalA m ρ c (1 : Fin 2) = outF (fun e : Dev nD => m ((e : Thread nD τ).loc main_arg0)) c := by
  have hz : (fun a => (win0_1.index (0 : Fin 1)) a * main_v1.ty.shape.size a) = fun _ => 0 := funext fun a => by fin_cases a <;> decide
  have hr (f : main_v1.ty.Contents (Elt F)) : (win0_1.blk (0 : Fin 1)).view.read (Elt F) f = f :=
    Memref.read_access_unit_zero (Elt F) main_v1 hz (fun a => by fin_cases a <;> decide) f
  have hw : finalA m ρ c (1 : Fin 2) = (win0_1.blk (0 : Fin 1)).view.write (Elt F) ((dats m ρ 0 c).arrAt (1 : Fin 2) 0) (outF (xstg m ρ) c) Finset.univ :=
    ((dats m ρ 0 c).arrAt_succ (1 : Fin 2) (0 : Fin 1)).trans (if_pos (by decide))
  rw [← hr (finalA m ρ c (1 : Fin 2)), hw, View.read_write_univ, xstg_eq]

/-- For any float values, from any memory with zero counters, every weakly fair run of the sixteen devices ends with
    every counter at zero, every argument as it was, and the exchanged blocks in every result. -/
theorem run : θ_run (defs (F := F)) (onTc (τ := τ) (main (F := F))) ⟨m, fun _ => 0, ρ⟩ fun r =>
    (∀ c : Dev nD, r.2.mem ((c.tc : Thread nD τ).loc main_arg0) = m ((c.tc : Thread nD τ).loc main_arg0))
      ∧ (∀ c : Dev nD, r.2.mem ((c.tc : Thread nD τ).loc main_v1) = outF (fun e : Dev nD => m ((e : Thread nD τ).loc main_arg0)) c)
      ∧ r.2.sem = fun _ => 0 :=
  (θ_run defs _ _).mono (fun _ h => ⟨fun c => (h.1 c (0 : Fin 2)).trans (finalA_x m ρ c), fun c => (h.1 c (1 : Fin 2)).trans (result_eq m ρ c), h.2⟩)
    (run_main m ρ)

end Cert.Exchange

end
-- ==== Proof.Same.lean ====
/-
# The idealised program is the same program

The kernel has no operation for idealisation to change, so the idealised program is the program itself. What is proved of
one for any float values is proved of the other.
-/
module

public import proofs.«01_k».proof.Proof.Run
public import proofs.«01_k».proof.Proof.Gen.KernelIdeal

@[expose] public section

set_option maxRecDepth 100000

noncomputable section

namespace Cert.Exchange

open Idealize.ShloMosaic Idealize.ShloMosaic.TcCoe Idealize.SL.Sem

variable {F : FTy → Type} [FloatOps F]

/-- Both programs enter the same kernel; -/
theorem defs₀_same : @Cert.Kernel.defs₀ F _ = @Cert.KernelIdeal.defs₀ F _ := by
  refine congrArg (Defs.onTc (nD := Cert.Kernel.nD) (τ := Cert.Kernel.τ) (sig := Cert.Kernel.sig) (Val := Elt F) (Λ := Cert.Kernel.Λ₀)) (funext fun l => funext fun a => ?_)
  match l, a with
  | 0, (t, s) => rfl

/-- with the same staging around it. -/
theorem defs_same : @Cert.Kernel.defs F _ = @Cert.KernelIdeal.defs F _ := congrArg (Pipeline.defs (Cert.Kernel.pcfgs (F := F))) defs₀_same

/-- The run of the idealised program: that of the program. -/
theorem run_ideal (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ (∀ c : Dev Cert.KernelIdeal.nD, r.2.mem ((c.tc : Thread Cert.KernelIdeal.nD Cert.KernelIdeal.τ).loc Cert.KernelIdeal.main_v1)
          = outF (fun e : Dev Cert.KernelIdeal.nD => m ((e.tc : Thread Cert.KernelIdeal.nD Cert.KernelIdeal.τ).loc Cert.KernelIdeal.main_arg0)) c)
        ∧ r.2.sem = fun _ => 0 := by
  rw [← defs_same]
  exact run (F := F) m ρ

end Cert.Exchange

end
-- ==== Proof.Value.lean ====
/-
# The result is the reference's

The reference returns its argument. Its argument is cut by rows over the devices, its result by columns; this module shows
that the exchanged blocks are the columns, and that the reference, run on its one device, leaves its argument in place.
-/
module

public import proofs.«01_k».proof.Proof.Blocks
public import proofs.«01_k».proof.Proof.Gen.ReferenceIdeal
public import Idealize.ShloMosaic.Lib.Layout
public import Idealize.ShloMosaic.Lib.Quiescent
public import Idealize.ShloMosaic.Lib.StableHlo.Run

@[expose] public section

noncomputable section

namespace Cert.Exchange

open Idealize.ShloMosaic Idealize.ShloMosaic.TcCoe Idealize.SL.Sem

variable {F : FTy → Type}

/-- The whole array. -/
abbrev Whole : Shape := ⟨2, ![1024, 1024]⟩

/-- What device `c` holds of an array cut by rows along `z`; -/
def rowsOf (v : Whole.Idx → Elt F .f32) (c : Dev Cert.Kernel.nD) : Cert.Kernel.S256x1024.Idx → Elt F .f32 :=
  Layout.blockN ⟨2, ![256, 1024]⟩ Whole (Layout.meshBlock [2, 2, 4] ![[2], []] c) v

/-- of an array cut by columns along `z`. -/
def colsOf (v : Whole.Idx → Elt F .f32) (c : Dev Cert.Kernel.nD) : Cert.Kernel.S1024x256.Idx → Elt F .f32 :=
  Layout.blockN ⟨2, ![1024, 256]⟩ Whole (Layout.meshBlock [2, 2, 4] ![[], [2]] c) v

/-- The source of an element of slot `s` has `z` coordinate `s`. -/
theorem zc_srcDev (c : Dev Cert.Kernel.nD) (i : Cert.Kernel.S1024x256.Idx) : (zc (srcDev c i)).val = (i 0).val / 256 := by
  have hi : (i 0).val < 1024 := (i 0).isLt
  have hd (q z : Fin 4) : zc (devAt q z) = z := by revert q z; decide
  unfold srcDev
  split
  · exact (by assumption : (i 0).val / 256 = (zc c).val).symm
  · rw [hd]; show (i 0).val / 256 % 4 = _; omega

/-- From the rows, the exchange makes the columns. -/
theorem outF_rows (v : Whole.Idx → Elt F .f32) (c : Dev Cert.Kernel.nD) : outF (rowsOf v) c = colsOf v c := by
  funext i
  have hi : (i 0).val < 1024 := (i 0).isLt
  have hj : (i 1).val < 256 := (i 1).isLt
  have hz := (zc c).isLt
  have hs := zc_srcDev c i
  unfold outF rowsOf colsOf
  rw [Layout.blockN_apply, Layout.blockN_apply]
  refine congrArg v (funext fun b => Fin.ext ?_)
  match b with
  | ⟨0, _⟩ =>
    show ((srcDev c i).val / 1 % 4 * 1 + 0) * 256 + (i 0).val % 256 % 256 = 0 * 1024 + (i 0).val
    change (srcDev c i).val % 4 = _ at hs
    omega
  | ⟨1, _⟩ =>
    show 0 * 1024 + (256 * (zc c).val + (i 1).val) % 1024 = (c.val / 1 % 4 * 1 + 0) * 256 + (i 1).val
    change c.val % 4 < 4 at hz
    have hc : (zc c).val = c.val % 4 := rfl
    omega

variable [FloatOps F]

/-- The reference's run: its one array ends as it was, and it has no counter. -/
theorem run_reference (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ fun r =>
      (∀ c : Dev Cert.ReferenceIdeal.nD, r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0 :=
  (θ_run Cert.ReferenceIdeal.defs _ _).mono (fun r h => ⟨fun c => h c Cert.ReferenceIdeal.main_arg0, sem_eq_zero_of_no_sems (by decide) r.2⟩)
    (StableHlo.run_seq (by decide) (by decide) Cert.ReferenceIdeal.defs Cert.ReferenceIdeal.main (fun _ => []) (fun _ => rfl) (fun _ => trivial) m ρ)

end Cert.Exchange

end
-- ==== Proof.lean ====
/-
# The certificate's claims

The kernel runs and ends quiet on its mesh (`Proof/Run.lean`), the idealised kernel is the same program
(`Proof/Same.lean`), and what it computes is the reference's result cut by columns (`Proof/Value.lean`). This module reads
the claims off those theorems.
-/
module

public import proofs.«01_k».proof.Defs
public import proofs.«01_k».proof.Proof.Same
public import proofs.«01_k».proof.Proof.Value

@[expose] public section

set_option maxRecDepth 8000

noncomputable section

namespace Cert.Proof

open Idealize.ShloMosaic Idealize.ShloMosaic.TcCoe Idealize.SL.Sem Cert.Exchange

/-- The kernel ends, its arguments unchanged and its counters at zero. -/
theorem frame_kernel : Cert.quiescent_Kernel := fun m g _ =>
  (θ_run Cert.Kernel.defs _ _).mono (fun _ h => ⟨h.1, h.2.2⟩) (run (F := Bits) m g)

/-- So does the idealised kernel; -/
theorem frame_ideal : Cert.quiescent_KernelIdeal := fun m g _ =>
  (θ_run Cert.KernelIdeal.defs _ _).mono (fun _ h => ⟨h.1, h.2.2⟩) (run_ideal (F := Ideal) m g)

/-- and so does the reference. -/
theorem frame_reference : Cert.quiescent_ReferenceIdeal := fun m g _ => run_reference (F := Ideal) m g

/-- From the rows of an array the kernel leaves every device its columns of the array, which is what the reference
    returns. -/
theorem value : Cert.algebraic_KernelIdeal_ReferenceIdeal := by
  intro m g m' g' _ hagree
  refine ⟨m' (((0 : Dev Cert.ReferenceIdeal.nD).tc : Thread _ Cert.ReferenceIdeal.τ).loc Cert.ReferenceIdeal.main_arg0), ?_, ?_⟩
  · refine (θ_run Cert.KernelIdeal.defs _ _).mono (fun r h c => ⟨(h.2.1 c).trans ?_, h.1 c⟩) (run_ideal (F := Ideal) m g)
    rw [show (fun e : Dev Cert.KernelIdeal.nD => m ((e.tc : Thread Cert.KernelIdeal.nD Cert.KernelIdeal.τ).loc Cert.KernelIdeal.main_arg0))
      = rowsOf (m' (((0 : Dev Cert.ReferenceIdeal.nD).tc : Thread _ Cert.ReferenceIdeal.τ).loc Cert.ReferenceIdeal.main_arg0)) from funext hagree]
    exact outF_rows _ c
  · exact (θ_run Cert.ReferenceIdeal.defs _ _).mono (fun r h => ⟨h.1 0, h.1 0⟩) (run_reference (F := Ideal) m' g')

theorem claim : Cert.Claim :=
  ⟨Cert.Kernel.Gen.facts, Cert.KernelIdeal.Gen.facts, Cert.ReferenceIdeal.Gen.facts, frame_kernel, frame_ideal, frame_reference, trivial, value⟩

end Cert.Proof

end
